-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x512 : Shape := ⟨3, ![4, 8192, 512]⟩
abbrev S4x8192x8 : Shape := ⟨3, ![4, 8192, 8]⟩
abbrev S_ : Shape := ⟨0, ![]⟩

class Facts : Prop where
  bcast_S_S4x8192x512 : S_.BroadcastsInDim S4x8192x512 (![] : Fin 0 → Fin S4x8192x512.rank)
  bcast_S_S4x8192x8 : S_.BroadcastsInDim S4x8192x8 (![] : Fin 0 → Fin S4x8192x8.rank)

variable [Facts]

def fn {F : FTy → Type} [FloatOps F] (main_arg0 : FVec F S4x8192x512 .f32) (main_arg1 : FVec F S4x8192x512 .f32) (main_arg2 : FVec F S4x8192x512 .f32) (main_arg3 : FVec F S4x8192x8 .f32) : IVec S4x8192x512 1 × IVec S4x8192x512 1 × IVec S4x8192x8 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  let main_v6 : FVec F S4x8192x8 .f32 := Host.absf main_arg3
  let main_cst_1 : FVec F S_ .f32 := constant S_ .f32 0x7F800000#32
  let main_v7 : FVec F S4x8192x8 .f32 := broadcastInDim S4x8192x8 ![] bcast_S_S4x8192x8 main_cst_1
  let main_v8 : IVec S4x8192x8 1 := cmpf .olt main_v6 main_v7
  (main_v2, main_v5, main_v8)
-- ==== Kernel.lean ====
abbrev S4x8192x512 : Shape := ⟨3, ![4, 8192, 512]⟩
abbrev S4x8192x8 : Shape := ⟨3, ![4, 8192, 8]⟩
abbrev S_ : Shape := ⟨0, ![]⟩
abbrev S4x8192x1024 : Shape := ⟨3, ![4, 8192, 1024]⟩
abbrev S4x8192x128 : Shape := ⟨3, ![4, 8192, 128]⟩
abbrev S4x8192x8x1 : Shape := ⟨4, ![4, 8192, 8, 1]⟩
abbrev S4x8192x8x3 : Shape := ⟨4, ![4, 8192, 8, 3]⟩
abbrev S4x8192x8x58 : Shape := ⟨4, ![4, 8192, 8, 58]⟩
abbrev S4x8192x8x64 : Shape := ⟨4, ![4, 8192, 8, 64]⟩
abbrev S4x8192x8x128 : Shape := ⟨4, ![4, 8192, 8, 128]⟩
abbrev S4x16x512x512 : Shape := ⟨4, ![4, 16, 512, 512]⟩
abbrev S4x16x16x512 : Shape := ⟨4, ![4, 16, 16, 512]⟩
abbrev S4x16x64x512 : Shape := ⟨4, ![4, 16, 64, 512]⟩
abbrev S4x16x640x512 : Shape := ⟨4, ![4, 16, 640, 512]⟩
abbrev S1x512x256 : Shape := ⟨3, ![1, 512, 256]⟩
abbrev S1x8192x256 : Shape := ⟨3, ![1, 8192, 256]⟩
abbrev S1x16x160x512 : Shape := ⟨4, ![1, 16, 160, 512]⟩
abbrev S1x512x128 : Shape := ⟨3, ![1, 512, 128]⟩
abbrev S2x4x256x512 : Shape := ⟨4, ![2, 4, 256, 512]⟩
abbrev S2x1x512 : Shape := ⟨3, ![2, 1, 512]⟩
abbrev S2x80x512 : Shape := ⟨3, ![2, 80, 512]⟩
abbrev S256x512 : Shape := ⟨2, ![256, 512]⟩
abbrev S1x512 : Shape := ⟨2, ![1, 512]⟩
abbrev S1x1x512 : Shape := ⟨3, ![1, 1, 512]⟩
abbrev S80x512 : Shape := ⟨2, ![80, 512]⟩
abbrev S1x80x512 : Shape := ⟨3, ![1, 80, 512]⟩
abbrev S1x256x128 : Shape := ⟨3, ![1, 256, 128]⟩
abbrev S256x128 : Shape := ⟨2, ![256, 128]⟩
abbrev S512x128 : Shape := ⟨2, ![512, 128]⟩
abbrev S1x1x256x512 : Shape := ⟨4, ![1, 1, 256, 512]⟩
abbrev S512 : Shape := ⟨1, ![512]⟩
abbrev S1x1x80x256 : Shape := ⟨4, ![1, 1, 80, 256]⟩
abbrev S80x256 : Shape := ⟨2, ![80, 256]⟩
abbrev S1x64x512 : Shape := ⟨3, ![1, 64, 512]⟩
abbrev S64x512 : Shape := ⟨2, ![64, 512]⟩
abbrev S128x512 : Shape := ⟨2, ![128, 512]⟩

abbrev nBuf : Space → Nat
  | .hbm => 110
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8, .f32⟩
  | .hbm, ⟨4, _⟩ => ⟨S_, .f32⟩
  | .hbm, ⟨5, _⟩ => ⟨S_, .f32⟩
  | .hbm, ⟨6, _⟩ => ⟨S4x8192x8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x8, .f32⟩
  | .hbm, ⟨12, _⟩ => ⟨S4x8192x8, .f32⟩
  | .hbm, ⟨13, _⟩ => ⟨S4x8192x8, .bf16⟩
  | .hbm, ⟨14, _⟩ => ⟨S4x8192x8, .f32⟩
  | .hbm, ⟨15, _⟩ => ⟨S4x8192x8, .f32⟩
  | .hbm, ⟨16, _⟩ => ⟨S4x8192x8, .bf16⟩
  | .hbm, ⟨17, _⟩ => ⟨S4x8192x8, .f32⟩
  | .hbm, ⟨18, _⟩ => ⟨S4x8192x8, .f32⟩
  | .hbm, ⟨19, _⟩ => ⟨S4x8192x8, .bf16⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x1024, .i32⟩
  | .hbm, ⟨24, _⟩ => ⟨S_, .i32⟩
  | .hbm, ⟨25, _⟩ => ⟨S4x8192x1024, .i32⟩
  | .hbm, ⟨26, _⟩ => ⟨S4x8192x1024, .i32⟩
  | .hbm, ⟨27, _⟩ => ⟨S_, .i32⟩
  | .hbm, ⟨28, _⟩ => ⟨S4x8192x1024, .i32⟩
  | .hbm, ⟨29, _⟩ => ⟨S4x8192x1024, .i32⟩
  | .hbm, ⟨30, _⟩ => ⟨S_, .i32⟩
  | .hbm, ⟨31, _⟩ => ⟨S4x8192x1024, .i32⟩
  | .hbm, ⟨32, _⟩ => ⟨S4x8192x1024, .i32⟩
  | .hbm, ⟨33, _⟩ => ⟨S_, .i32⟩
  | .hbm, ⟨34, _⟩ => ⟨S4x8192x1024, .i32⟩
  | .hbm, ⟨35, _⟩ => ⟨S4x8192x1024, .i32⟩
  | .hbm, ⟨36, _⟩ => ⟨S4x8192x1024, .i1⟩
  | .hbm, ⟨37, _⟩ => ⟨S_, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x128, .f32⟩
  | .hbm, ⟨42, _⟩ => ⟨S4x8192x128, .f32⟩
  | .hbm, ⟨43, _⟩ => ⟨S4x8192x128, .f32⟩
  | .hbm, ⟨44, _⟩ => ⟨S4x8192x128, .f32⟩
  | .hbm, ⟨45, _⟩ => ⟨S4x8192x128, .f32⟩
  | .hbm, ⟨46, _⟩ => ⟨S4x8192x128, .f32⟩
  | .hbm, ⟨47, _⟩ => ⟨S4x8192x128, .f32⟩
  | .hbm, ⟨48, _⟩ => ⟨S4x8192x128, .f32⟩
  | .hbm, ⟨49, _⟩ => ⟨S4x8192x1024, .f32⟩
  | .hbm, ⟨50, _⟩ => ⟨S4x8192x8x1, .f32⟩
  | .hbm, ⟨51, _⟩ => ⟨S4x8192x8x1, .f32⟩
  | .hbm, ⟨52, _⟩ => ⟨S4x8192x8x1, .f32⟩
  | .hbm, ⟨53, _⟩ => ⟨S_, .f32⟩
  | .hbm, ⟨54, _⟩ => ⟨S4x8192x8x3, .f32⟩
  | .hbm, ⟨55, _⟩ => ⟨S_, .f32⟩
  | .hbm, ⟨56, _⟩ => ⟨S4x8192x8x58, .f32⟩
  | .hbm, ⟨57, _⟩ => ⟨S4x8192x8x64, .f32⟩
  | .hbm, ⟨58, _⟩ => ⟨S4x8192x8x128, .f32⟩
  | .hbm, ⟨59, _⟩ => ⟨S4x8192x1024, .f32⟩
  | .hbm, ⟨60, _⟩ => ⟨S4x8192x1024, .f32⟩
  | .hbm, ⟨61, _⟩ => ⟨S4x8192x1024, .bf16⟩
  | .hbm, ⟨62, _⟩ => ⟨S4x8192x128, .f32⟩
  | .hbm, ⟨63, _⟩ => ⟨S4x8192x128, .f32⟩
  | .hbm, ⟨64, _⟩ => ⟨S4x8192x128, .f32⟩
  | .hbm, ⟨65, _⟩ => ⟨S4x8192x128, .f32⟩
  | .hbm, ⟨66, _⟩ => ⟨S4x8192x128, .f32⟩
  | .hbm, ⟨67, _⟩ => ⟨S4x8192x128, .f32⟩
  | .hbm, ⟨68, _⟩ => ⟨S4x8192x128, .f32⟩
  | .hbm, ⟨69, _⟩ => ⟨S4x8192x128, .f32⟩
  | .hbm, ⟨70, _⟩ => ⟨S4x8192x1024, .f32⟩
  | .hbm, ⟨71, _⟩ => ⟨S_, .f32⟩
  | .hbm, ⟨72, _⟩ => ⟨S4x8192x8x3, .f32⟩
  | .hbm, ⟨73, _⟩ => ⟨S4x8192x8x1, .f32⟩
  | .hbm, ⟨74, _⟩ => ⟨S4x8192x8x1, .f32⟩
  | .hbm, ⟨75, _⟩ => ⟨S4x8192x8x1, .f32⟩
  | .hbm, ⟨76, _⟩ => ⟨S4x8192x8x1, .f32⟩
  | .hbm, ⟨77, _⟩ => ⟨S4x8192x8x1, .f32⟩
  | .hbm, ⟨78, _⟩ => ⟨S4x8192x8x1, .f32⟩
  | .hbm, ⟨79, _⟩ => ⟨S_, .f32⟩
  | .hbm, ⟨80, _⟩ => ⟨S4x8192x8x58, .f32⟩
  | .hbm, ⟨81, _⟩ => ⟨S4x8192x8x64, .f32⟩
  | .hbm, ⟨82, _⟩ => ⟨S4x8192x8x128, .f32⟩
  | .hbm, ⟨83, _⟩ => ⟨S4x8192x1024, .f32⟩
  | .hbm, ⟨84, _⟩ => ⟨S4x8192x1024, .f32⟩
  | .hbm, ⟨85, _⟩ => ⟨S4x8192x1024, .bf16⟩
  | .hbm, ⟨86, _⟩ => ⟨S4x16x512x512, .f32⟩
  | .hbm, ⟨87, _⟩ => ⟨S4x16x512x512, .f32⟩
  | .hbm, ⟨88, _⟩ => ⟨S4x16x512x512, .bf16⟩
  | .hbm, ⟨89, _⟩ => ⟨S4x16x16x512, .i32⟩
  | .hbm, ⟨90, _⟩ => ⟨S_, .i32⟩
  | .hbm, ⟨91, _⟩ => ⟨S4x16x16x512, .i32⟩
  | .hbm, ⟨92, _⟩ => ⟨S4x16x16x512, .i1⟩
  | .hbm, ⟨93, _⟩ => ⟨S_, .f32⟩
  | .hbm, ⟨94, _⟩ => ⟨S_, .f32⟩
  | .hbm, ⟨95, _⟩ => ⟨S4x16x16x512, .f32⟩
  | .hbm, ⟨96, _⟩ => ⟨S4x16x16x512, .f32⟩
  | .hbm, ⟨97, _⟩ => ⟨S4x16x16x512, .f32⟩
  | .hbm, ⟨98, _⟩ => ⟨S4x16x16x512, .f32⟩
  | .hbm, ⟨99, _⟩ => ⟨S4x16x16x512, .bf16⟩
  | .hbm, ⟨100, _⟩ => ⟨S4x16x64x512, .bf16⟩
  | .hbm, ⟨101, _⟩ => ⟨S4x16x64x512, .bf16⟩
  | .hbm, ⟨102, _⟩ => ⟨S4x16x64x512, .bf16⟩
  | .hbm, ⟨103, _⟩ => ⟨S4x16x64x512, .bf16⟩
  | .hbm, ⟨104, _⟩ => ⟨S4x16x64x512, .bf16⟩
  | .hbm, ⟨105, _⟩ => ⟨S4x16x64x512, .bf16⟩
  | .hbm, ⟨106, _⟩ => ⟨S4x16x64x512, .bf16⟩
  | .hbm, ⟨107, _⟩ => ⟨S4x16x64x512, .bf16⟩
  | .hbm, ⟨108, _⟩ => ⟨S4x16x640x512, .bf16⟩
  | .hbm, ⟨109, _⟩ => ⟨S4x8192x512, .f32⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x160x512, .bf16⟩
  | .local _ .vmem, ⟨5, _⟩ => ⟨S1x16x160x512, .bf16⟩
  | .local _ .vmem, ⟨6, _⟩ => ⟨S1x512x128, .f32⟩
  | .local _ .vmem, ⟨7, _⟩ => ⟨S1x512x128, .f32⟩
  | .local _ .vmem, ⟨8, _⟩ => ⟨S2x4x256x512, .f32⟩
  | .local _ .vmem, ⟨9, _⟩ => ⟨S2x1x512, .f32⟩
  | .local _ .vmem, ⟨10, _⟩ => ⟨S2x80x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_9 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_cst_11 : Ref sig .tc := ⟨.hbm, 94, rfl⟩
abbrev main_call3_v0 : Ref sig .tc := ⟨.hbm, 95, rfl⟩
abbrev main_call3_v1 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32 : BitVec 32 := 0#32
  c0_i32
def k0_off1 (c0_i32_13 : BitVec 32) : Fin 3 → Nat :=
  let c0_14 : Index := 0#32
  let c0_i32 : BitVec 32 := 0#32
  let v18 : BitVec 32 := c0_i32
  let v19 : BitVec 32 := Scalar.addi v18 c0_i32_13
  let v20 : Index := Scalar.indexCast v19
  let c0_15 : Index := 0#32
  ![0, v20.toNat, 0]
def k0_off2 (c0_i32_24 : BitVec 32) : Fin 3 → Nat :=
  let c0_25 : Index := 0#32
  let c0_i32 : BitVec 32 := 0#32
  let v18 : BitVec 32 := c0_i32
  let v29 : BitVec 32 := Scalar.addi v18 c0_i32_24
  let v30 : Index := Scalar.indexCast v29
  let c128 : Index := 128#32
  ![0, v30.toNat, 128]
@[reducible] def k0_t1_loop (i : grid0.Coords) : Scf.Loop 32 :=
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_61 : BitVec 32 := 1#32
  ⟨c0_i32_58, v80, c1_i32_61⟩
def k0_mult2 (i : grid0.Coords) (k0_t1 : Fin (k0_t1_loop i).trips) : BitVec 32 :=
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c1_i32_87 : BitVec 32 := 1#32
  let v117 : BitVec 32 := Scalar.addi v116 c1_i32_87
  let c512_i32 : BitVec 32 := 512#32
  let v118 : BitVec 32 := Scalar.muli v117 c512_i32
  v118
def k0_off3 (i : grid0.Coords) (k0_t1 : Fin (k0_t1_loop i).trips) (c1_i32_87 : BitVec 32) (c0_i32_88 : BitVec 32) : Fin 3 → Nat :=
  let c0_89 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v117 : BitVec 32 := Scalar.addi v116 c1_i32_87
  let c512_i32 : BitVec 32 := 512#32
  let v118 : BitVec 32 := Scalar.muli v117 c512_i32
  let v119 : BitVec 32 := v118
  let v120 : BitVec 32 := Scalar.addi v119 c0_i32_88
  let v121 : Index := Scalar.indexCast v120
  let c0_90 : Index := 0#32
  ![0, v121.toNat, 0]
def k0_off4 (i : grid0.Coords) (k0_t1 : Fin (k0_t1_loop i).trips) (c1_i32_87 : BitVec 32) (c0_i32_99 : BitVec 32) : Fin 3 → Nat :=
  let c0_100 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v117 : BitVec 32 := Scalar.addi v116 c1_i32_87
  let c512_i32 : BitVec 32 := 512#32
  let v118 : BitVec 32 := Scalar.muli v117 c512_i32
  let v119 : BitVec 32 := v118
  let v130 : BitVec 32 := Scalar.addi v119 c0_i32_99
  let v131 : Index := Scalar.indexCast v130
  let c128_101 : Index := 128#32
  ![0, v131.toNat, 128]
def k0_off5 (i : grid0.Coords) (k0_t1 : Fin (k0_t1_loop i).trips) : Fin 4 → Nat :=
  let c0_164 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v212 : Index := Scalar.indexCast v116
  let c0_165 : Index := 0#32
  let c0_166 : Index := 0#32
  ![0, v212.toNat, 0, 0]
def k0_off6 (i : grid0.Coords) (k0_t1 : Fin (k0_t1_loop i).trips) : Fin 4 → Nat :=
  let c0_168 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v219 : Index := Scalar.indexCast v116
  let c80 : Index := 80#32
  let c0_169 : Index := 0#32
  ![0, v219.toNat, 80, 0]
def k0_off7 (i : grid0.Coords) (k0_t1 : Fin (k0_t1_loop i).trips) : Fin 4 → Nat :=
  let c0_171 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v226 : Index := Scalar.indexCast v116
  let c0_172 : Index := 0#32
  let c256 : Index := 256#32
  ![0, v226.toNat, 0, 256]
def k0_off8 (i : grid0.Coords) (k0_t1 : Fin (k0_t1_loop i).trips) : Fin 4 → Nat :=
  let c0_174 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let v233 : Index := Scalar.indexCast v116
  let c80_175 : Index := 80#32
  let c256_176 : Index := 256#32
  ![0, v233.toNat, 80, 256]
def k0_mult3 (i : grid0.Coords) (k0_t1 : Fin (k0_t1_loop i).trips) : BitVec 32 :=
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c2_i32_190 : BitVec 32 := 2#32
  let v252 : BitVec 32 := Scalar.addi v116 c2_i32_190
  let c512_i32_191 : BitVec 32 := 512#32
  let v253 : BitVec 32 := Scalar.muli v252 c512_i32_191
  v253
def k0_off9 (i : grid0.Coords) (k0_t1 : Fin (k0_t1_loop i).trips) : Fin 4 → Nat :=
  let c0_269 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c1_i32_236 : BitVec 32 := 1#32
  let v295 : BitVec 32 := Scalar.addi v116 c1_i32_236
  let v348 : Index := Scalar.indexCast v295
  let c0_270 : Index := 0#32
  let c0_271 : Index := 0#32
  ![0, v348.toNat, 0, 0]
def k0_off10 (i : grid0.Coords) (k0_t1 : Fin (k0_t1_loop i).trips) : Fin 4 → Nat :=
  let c0_273 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c1_i32_236 : BitVec 32 := 1#32
  let v295 : BitVec 32 := Scalar.addi v116 c1_i32_236
  let v355 : Index := Scalar.indexCast v295
  let c80_274 : Index := 80#32
  let c0_275 : Index := 0#32
  ![0, v355.toNat, 80, 0]
def k0_off11 (i : grid0.Coords) (k0_t1 : Fin (k0_t1_loop i).trips) : Fin 4 → Nat :=
  let c0_277 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c1_i32_236 : BitVec 32 := 1#32
  let v295 : BitVec 32 := Scalar.addi v116 c1_i32_236
  let v362 : Index := Scalar.indexCast v295
  let c0_278 : Index := 0#32
  let c256_279 : Index := 256#32
  ![0, v362.toNat, 0, 256]
def k0_off12 (i : grid0.Coords) (k0_t1 : Fin (k0_t1_loop i).trips) : Fin 4 → Nat :=
  let c0_281 : Index := 0#32
  let c2_i32_86 : BitVec 32 := 2#32
  let c0_i32_58 : BitVec 32 := 0#32
  let c1_i32_61 : BitVec 32 := 1#32
  let arg10 : BitVec 32 := Scf.iv c0_i32_58 c1_i32_61 k0_t1
  let v116 : BitVec 32 := Scalar.muli c2_i32_86 arg10
  let c1_i32_236 : BitVec 32 := 1#32
  let v295 : BitVec 32 := Scalar.addi v116 c1_i32_236
  let v369 : Index := Scalar.indexCast v295
  let c80_282 : Index := 80#32
  let c256_283 : Index := 256#32
  ![0, v369.toNat, 80, 256]
@[reducible] def k0_t2_loop (i : grid0.Coords) : Scf.Loop 32 :=
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let v77 : BitVec 32 := Scalar.addi c0_i32_58 v76
  let c1_i32_62 : BitVec 32 := 1#32
  ⟨v80, v77, c1_i32_62⟩
def k0_mult4 (i : grid0.Coords) (k0_t2 : Fin (k0_t2_loop i).trips) : BitVec 32 :=
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c1_i32_87 : BitVec 32 := 1#32
  let v117 : BitVec 32 := Scalar.addi v116 c1_i32_87
  let c512_i32 : BitVec 32 := 512#32
  let v118 : BitVec 32 := Scalar.muli v117 c512_i32
  v118
def k0_off13 (i : grid0.Coords) (k0_t2 : Fin (k0_t2_loop i).trips) (c1_i32_87 : BitVec 32) (c0_i32_88 : BitVec 32) : Fin 3 → Nat :=
  let c0_89 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v117 : BitVec 32 := Scalar.addi v116 c1_i32_87
  let c512_i32 : BitVec 32 := 512#32
  let v118 : BitVec 32 := Scalar.muli v117 c512_i32
  let v119 : BitVec 32 := v118
  let v120 : BitVec 32 := Scalar.addi v119 c0_i32_88
  let v121 : Index := Scalar.indexCast v120
  let c0_90 : Index := 0#32
  ![0, v121.toNat, 0]
def k0_off14 (i : grid0.Coords) (k0_t2 : Fin (k0_t2_loop i).trips) (c1_i32_87 : BitVec 32) (c0_i32_99 : BitVec 32) : Fin 3 → Nat :=
  let c0_100 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v117 : BitVec 32 := Scalar.addi v116 c1_i32_87
  let c512_i32 : BitVec 32 := 512#32
  let v118 : BitVec 32 := Scalar.muli v117 c512_i32
  let v119 : BitVec 32 := v118
  let v130 : BitVec 32 := Scalar.addi v119 c0_i32_99
  let v131 : Index := Scalar.indexCast v130
  let c128_101 : Index := 128#32
  ![0, v131.toNat, 128]
def k0_off15 (i : grid0.Coords) (k0_t2 : Fin (k0_t2_loop i).trips) : Fin 4 → Nat :=
  let c0_164 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v212 : Index := Scalar.indexCast v116
  let c0_165 : Index := 0#32
  let c0_166 : Index := 0#32
  ![0, v212.toNat, 0, 0]
def k0_off16 (i : grid0.Coords) (k0_t2 : Fin (k0_t2_loop i).trips) : Fin 4 → Nat :=
  let c0_168 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v219 : Index := Scalar.indexCast v116
  let c80 : Index := 80#32
  let c0_169 : Index := 0#32
  ![0, v219.toNat, 80, 0]
def k0_off17 (i : grid0.Coords) (k0_t2 : Fin (k0_t2_loop i).trips) : Fin 4 → Nat :=
  let c0_171 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v226 : Index := Scalar.indexCast v116
  let c0_172 : Index := 0#32
  let c256 : Index := 256#32
  ![0, v226.toNat, 0, 256]
def k0_off18 (i : grid0.Coords) (k0_t2 : Fin (k0_t2_loop i).trips) : Fin 4 → Nat :=
  let c0_174 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let v233 : Index := Scalar.indexCast v116
  let c80_175 : Index := 80#32
  let c256_176 : Index := 256#32
  ![0, v233.toNat, 80, 256]
def k0_mult5 (i : grid0.Coords) (k0_t2 : Fin (k0_t2_loop i).trips) : BitVec 32 :=
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c2_i32_190 : BitVec 32 := 2#32
  let v252 : BitVec 32 := Scalar.addi v116 c2_i32_190
  let c512_i32_191 : BitVec 32 := 512#32
  let v253 : BitVec 32 := Scalar.muli v252 c512_i32_191
  v253
def k0_off19 (i : grid0.Coords) (k0_t2 : Fin (k0_t2_loop i).trips) : Fin 4 → Nat :=
  let c0_269 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c1_i32_236 : BitVec 32 := 1#32
  let v295 : BitVec 32 := Scalar.addi v116 c1_i32_236
  let v348 : Index := Scalar.indexCast v295
  let c0_270 : Index := 0#32
  let c0_271 : Index := 0#32
  ![0, v348.toNat, 0, 0]
def k0_off20 (i : grid0.Coords) (k0_t2 : Fin (k0_t2_loop i).trips) : Fin 4 → Nat :=
  let c0_273 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c1_i32_236 : BitVec 32 := 1#32
  let v295 : BitVec 32 := Scalar.addi v116 c1_i32_236
  let v355 : Index := Scalar.indexCast v295
  let c80_274 : Index := 80#32
  let c0_275 : Index := 0#32
  ![0, v355.toNat, 80, 0]
def k0_off21 (i : grid0.Coords) (k0_t2 : Fin (k0_t2_loop i).trips) : Fin 4 → Nat :=
  let c0_277 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c1_i32_236 : BitVec 32 := 1#32
  let v295 : BitVec 32 := Scalar.addi v116 c1_i32_236
  let v362 : Index := Scalar.indexCast v295
  let c0_278 : Index := 0#32
  let c256_279 : Index := 256#32
  ![0, v362.toNat, 0, 256]
def k0_off22 (i : grid0.Coords) (k0_t2 : Fin (k0_t2_loop i).trips) : Fin 4 → Nat :=
  let c0_281 : Index := 0#32
  let c2_i32_86 : BitVec 32 := 2#32
  let c0_i32_58 : BitVec 32 := 0#32
  let arg2 : BitVec 32 := BitVec.ofNat 32 (i 2).val
  let c0_i32_53 : BitVec 32 := 0#32
  let v60 : BitVec 1 := Scalar.cmpi .sgt arg2 c0_i32_53
  let v61 : BitVec 32 := Scalar.extui v60
  let c0_i32_54 : BitVec 32 := 0#32
  let v62 : BitVec 1 := Scalar.cmpi .slt arg2 c0_i32_54
  let v63 : BitVec 32 := Scalar.extui v62
  let v64 : BitVec 32 := Scalar.subi v61 v63
  let c2_i32 : BitVec 32 := 2#32
  let c0_i32_55 : BitVec 32 := 0#32
  let v65 : BitVec 1 := Scalar.cmpi .sgt c2_i32 c0_i32_55
  let v66 : BitVec 32 := Scalar.extui v65
  let c0_i32_56 : BitVec 32 := 0#32
  let v67 : BitVec 1 := Scalar.cmpi .slt c2_i32 c0_i32_56
  let v68 : BitVec 32 := Scalar.extui v67
  let v69 : BitVec 32 := Scalar.subi v66 v68
  let v70 : BitVec 1 := Scalar.cmpi .ne v64 v69
  let v71 : BitVec 32 := Scalar.remsi arg2 c2_i32
  let c0_i32_57 : BitVec 32 := 0#32
  let v72 : BitVec 1 := Scalar.cmpi .ne v71 c0_i32_57
  let v73 : BitVec 1 := Scalar.andi v70 v72
  let v59 : BitVec 32 := Scalar.divsi arg2 c2_i32
  let c1_i32 : BitVec 32 := 1#32
  let v74 : BitVec 32 := Scalar.subi v59 c1_i32
  let v75 : BitVec 32 := Scalar.select v73 v74 v59
  let v76 : BitVec 32 := Scalar.subi v75 c0_i32_58
  let c1_i32_60 : BitVec 32 := 1#32
  let v78 : BitVec 32 := Scalar.divsi v76 c1_i32_60
  let v79 : BitVec 32 := Scalar.muli v78 c1_i32_60
  let v80 : BitVec 32 := Scalar.addi c0_i32_58 v79
  let c1_i32_62 : BitVec 32 := 1#32
  let arg10 : BitVec 32 := Scf.iv v80 c1_i32_62 k0_t2
  let v116 : BitVec 32 := Scalar.muli c2_i32_86 arg10
  let c1_i32_236 : BitVec 32 := 1#32
  let v295 : BitVec 32 := Scalar.addi v116 c1_i32_236
  let v369 : Index := Scalar.indexCast v295
  let c80_282 : Index := 80#32
  let c256_283 : Index := 256#32
  ![0, v369.toNat, 80, 256]
def k0_cond1 (i : grid0.Coords) : BitVec 1 :=
  let arg2 : BitVec 32 := BitVec.ofNat 32 (i 2).val
  let c2_i32_63 : BitVec 32 := 2#32
  let c0_i32_64 : BitVec 32 := 0#32
  let v83 : BitVec 1 := Scalar.cmpi .eq c2_i32_63 c0_i32_64
  let c1_i32_65 : BitVec 32 := 1#32
  let v84 : BitVec 32 := Scalar.select v83 c1_i32_65 c2_i32_63
  let v85 : BitVec 32 := Scalar.remsi arg2 v84
  let c0_i32_67 : BitVec 32 := 0#32
  let v87 : BitVec 1 := Scalar.cmpi .slt v85 c0_i32_67
  let c0_i32_68 : BitVec 32 := 0#32
  let v88 : BitVec 1 := Scalar.cmpi .slt v84 c0_i32_68
  let v89 : BitVec 1 := Scalar.xori v87 v88
  let c0_i32_66 : BitVec 32 := 0#32
  let v86 : BitVec 1 := Scalar.cmpi .ne v85 c0_i32_66
  let v90 : BitVec 1 := Scalar.andi v89 v86
  let v91 : BitVec 32 := Scalar.addi v85 v84
  let v92 : BitVec 32 := Scalar.select v90 v91 v85
  let c1_i32_69 : BitVec 32 := 1#32
  let v93 : BitVec 1 := Scalar.cmpi .eq v92 c1_i32_69
  let v94 : BitVec 32 := Scalar.extui v93
  let c0_i32_70 : BitVec 32 := 0#32
  let v95 : BitVec 1 := Scalar.cmpi .ne v94 c0_i32_70
  v95

def k0_mult6 (i : grid0.Coords) : BitVec 32 :=
  let arg2 : BitVec 32 := BitVec.ofNat 32 (i 2).val
  let c512_i32 : BitVec 32 := 512#32
  let v116 : BitVec 32 := Scalar.muli arg2 c512_i32
  v116
def k0_off23 (i : grid0.Coords) (c0_i32_86 : BitVec 32) : Fin 3 → Nat :=
  let c0_87 : Index := 0#32
  let arg2 : BitVec 32 := BitVec.ofNat 32 (i 2).val
  let c512_i32 : BitVec 32 := 512#32
  let v116 : BitVec 32 := Scalar.muli arg2 c512_i32
  let v117 : BitVec 32 := v116
  let v118 : BitVec 32 := Scalar.addi v117 c0_i32_86
  let v119 : Index := Scalar.indexCast v118
  let c0_88 : Index := 0#32
  ![0, v119.toNat, 0]
def k0_off24 (i : grid0.Coords) (c0_i32_97 : BitVec 32) : Fin 3 → Nat :=
  let c0_98 : Index := 0#32
  let arg2 : BitVec 32 := BitVec.ofNat 32 (i 2).val
  let c512_i32 : BitVec 32 := 512#32
  let v116 : BitVec 32 := Scalar.muli arg2 c512_i32
  let v117 : BitVec 32 := v116
  let v128 : BitVec 32 := Scalar.addi v117 c0_i32_97
  let v129 : Index := Scalar.indexCast v128
  let c128_99 : Index := 128#32
  ![0, v129.toNat, 128]
def k0_off25 (i : grid0.Coords) : Fin 4 → Nat :=
  let c0_163 : Index := 0#32
  let arg2 : BitVec 32 := BitVec.ofNat 32 (i 2).val
  let c1_i32_130 : BitVec 32 := 1#32
  let v158 : BitVec 32 := Scalar.subi arg2 c1_i32_130
  let v211 : Index := Scalar.indexCast v158
  let c0_164 : Index := 0#32
  let c0_165 : Index := 0#32
  ![0, v211.toNat, 0, 0]
def k0_off26 (i : grid0.Coords) : Fin 4 → Nat :=
  let c0_167 : Index := 0#32
  let arg2 : BitVec 32 := BitVec.ofNat 32 (i 2).val
  let c1_i32_130 : BitVec 32 := 1#32
  let v158 : BitVec 32 := Scalar.subi arg2 c1_i32_130
  let v218 : Index := Scalar.indexCast v158
  let c80 : Index := 80#32
  let c0_168 : Index := 0#32
  ![0, v218.toNat, 80, 0]
def k0_off27 (i : grid0.Coords) : Fin 4 → Nat :=
  let c0_170 : Index := 0#32
  let arg2 : BitVec 32 := BitVec.ofNat 32 (i 2).val
  let c1_i32_130 : BitVec 32 := 1#32
  let v158 : BitVec 32 := Scalar.subi arg2 c1_i32_130
  let v225 : Index := Scalar.indexCast v158
  let c0_171 : Index := 0#32
  let c256 : Index := 256#32
  ![0, v225.toNat, 0, 256]
def k0_off28 (i : grid0.Coords) : Fin 4 → Nat :=
  let c0_173 : Index := 0#32
  let arg2 : BitVec 32 := BitVec.ofNat 32 (i 2).val
  let c1_i32_130 : BitVec 32 := 1#32
  let v158 : BitVec 32 := Scalar.subi arg2 c1_i32_130
  let v232 : Index := Scalar.indexCast v158
  let c80_174 : Index := 80#32
  let c256_175 : Index := 256#32
  ![0, v232.toNat, 80, 256]
def k0_off29 (i : grid0.Coords) : Fin 4 → Nat :=
  let c0_229 : Index := 0#32
  let arg2 : BitVec 32 := BitVec.ofNat 32 (i 2).val
  let v323 : Index := Scalar.indexCast arg2
  let c0_230 : Index := 0#32
  let c0_231 : Index := 0#32
  ![0, v323.toNat, 0, 0]
def k0_off30 (i : grid0.Coords) : Fin 4 → Nat :=
  let c0_233 : Index := 0#32
  let arg2 : BitVec 32 := BitVec.ofNat 32 (i 2).val
  let v330 : Index := Scalar.indexCast arg2
  let c80_234 : Index := 80#32
  let c0_235 : Index := 0#32
  ![0, v330.toNat, 80, 0]
def k0_off31 (i : grid0.Coords) : Fin 4 → Nat :=
  let c0_237 : Index := 0#32
  let arg2 : BitVec 32 := BitVec.ofNat 32 (i 2).val
  let v337 : Index := Scalar.indexCast arg2
  let c0_238 : Index := 0#32
  let c256_239 : Index := 256#32
  ![0, v337.toNat, 0, 256]
def k0_off32 (i : grid0.Coords) : Fin 4 → Nat :=
  let c0_241 : Index := 0#32
  let arg2 : BitVec 32 := BitVec.ofNat 32 (i 2).val
  let v344 : Index := Scalar.indexCast arg2
  let c80_242 : Index := 80#32
  let c256_243 : Index := 256#32
  ![0, v344.toNat, 80, 256]
def k0_cond2 (i : grid0.Coords) : BitVec 1 :=
  let arg2 : BitVec 32 := BitVec.ofNat 32 (i 2).val
  let c2_i32_63 : BitVec 32 := 2#32
  let c0_i32_64 : BitVec 32 := 0#32
  let v83 : BitVec 1 := Scalar.cmpi .eq c2_i32_63 c0_i32_64
  let c1_i32_65 : BitVec 32 := 1#32
  let v84 : BitVec 32 := Scalar.select v83 c1_i32_65 c2_i32_63
  let v85 : BitVec 32 := Scalar.remsi arg2 v84
  let c0_i32_67 : BitVec 32 := 0#32
  let v87 : BitVec 1 := Scalar.cmpi .slt v85 c0_i32_67
  let c0_i32_68 : BitVec 32 := 0#32
  let v88 : BitVec 1 := Scalar.cmpi .slt v84 c0_i32_68
  let v89 : BitVec 1 := Scalar.xori v87 v88
  let c0_i32_66 : BitVec 32 := 0#32
  let v86 : BitVec 1 := Scalar.cmpi .ne v85 c0_i32_66
  let v90 : BitVec 1 := Scalar.andi v89 v86
  let v91 : BitVec 32 := Scalar.addi v85 v84
  let v92 : BitVec 32 := Scalar.select v90 v91 v85
  let c1_i32_69 : BitVec 32 := 1#32
  let v93 : BitVec 1 := Scalar.cmpi .eq v92 c1_i32_69
  let v_true : BitVec 1 := 1#1
  let v96 : BitVec 1 := Scalar.xori v93 v_true
  let v97 : BitVec 32 := Scalar.extui v96
  let c0_i32_71 : BitVec 32 := 0#32
  let v98 : BitVec 1 := Scalar.cmpi .ne v97 c0_i32_71
  v98

def k0_off33 (i : grid0.Coords) : Fin 4 → Nat :=
  let c0_126 : Index := 0#32
  let arg2 : BitVec 32 := BitVec.ofNat 32 (i 2).val
  let v188 : Index := Scalar.indexCast arg2
  let c0_127 : Index := 0#32
  let c0_128 : Index := 0#32
  ![0, v188.toNat, 0, 0]
def k0_off34 (i : grid0.Coords) : Fin 4 → Nat :=
  let c0_130 : Index := 0#32
  let arg2 : BitVec 32 := BitVec.ofNat 32 (i 2).val
  let v195 : Index := Scalar.indexCast arg2
  let c80 : Index := 80#32
  let c0_131 : Index := 0#32
  ![0, v195.toNat, 80, 0]
def k0_off35 (i : grid0.Coords) : Fin 4 → Nat :=
  let c0_133 : Index := 0#32
  let arg2 : BitVec 32 := BitVec.ofNat 32 (i 2).val
  let v202 : Index := Scalar.indexCast arg2
  let c0_134 : Index := 0#32
  let c256 : Index := 256#32
  ![0, v202.toNat, 0, 256]
def k0_off36 (i : grid0.Coords) : Fin 4 → Nat :=
  let c0_136 : Index := 0#32
  let arg2 : BitVec 32 := BitVec.ofNat 32 (i 2).val
  let v209 : Index := Scalar.indexCast arg2
  let c80_137 : Index := 80#32
  let c256_138 : Index := 256#32
  ![0, v209.toNat, 80, 256]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x8192x8 : Shape := ⟨3, ![4, 8192, 8]⟩
abbrev S4x8192x8x64 : Shape := ⟨4, ![4, 8192, 8, 64]⟩
abbrev S_ : Shape := ⟨0, ![]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x64x8192 : Shape := ⟨4, ![4, 8, 64, 8192]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8, .f32⟩
  | .hbm, ⟨4, _⟩ => ⟨S4x8192x8x64, .f32⟩
  | .hbm, ⟨5, _⟩ => ⟨S4x8192x8x64, .f32⟩
  | .hbm, ⟨6, _⟩ => ⟨S4x8192x8x64, .f32⟩
  | .hbm, ⟨7, _⟩ => ⟨S_, .f32⟩
  | .hbm, ⟨8, _⟩ => ⟨S_, .f32⟩
  | .hbm, ⟨9, _⟩ => ⟨S4x8192x8, .f32⟩
  | .hbm, ⟨10, _⟩ => ⟨S4x8x8192, .f32⟩
  | .hbm, ⟨11, _⟩ => ⟨S4x8x8192x8192, .f32⟩
  | .hbm, ⟨12, _⟩ => ⟨S_, .f32⟩
  | .hbm, ⟨13, _⟩ => ⟨S4x8x8192x8192, .f32⟩
  | .hbm, ⟨14, _⟩ => ⟨S4x8x8192x8192, .f32⟩
  | .hbm, ⟨15, _⟩ => ⟨S4x8x8192x1, .f32⟩
  | .hbm, ⟨16, _⟩ => ⟨S4x8x1x8192, .f32⟩
  | .hbm, ⟨17, _⟩ => ⟨S4x8x8192x8192, .f32⟩
  | .hbm, ⟨18, _⟩ => ⟨S4x8x8192x8192, .f32⟩
  | .hbm, ⟨19, _⟩ => ⟨S4x8x8192x8192, .f32⟩
  | .hbm, ⟨20, _⟩ => ⟨S4x8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S4x8x8192x8192, .i1⟩
  | .hbm, ⟨30, _⟩ => ⟨S4x8x8192x8192, .f32⟩
  | .hbm, ⟨31, _⟩ => ⟨S4x8x8192x8192, .f32⟩
  | .hbm, ⟨32, _⟩ => ⟨S_, .f32⟩
  | .hbm, ⟨33, _⟩ => ⟨S4x8x8192, .f32⟩
  | .hbm, ⟨34, _⟩ => ⟨S_, .f32⟩
  | .hbm, ⟨35, _⟩ => ⟨S4x8x8192, .f32⟩
  | .hbm, ⟨36, _⟩ => ⟨S4x8x8192, .f32⟩
  | .hbm, ⟨37, _⟩ => ⟨S4x8x8192x1, .f32⟩
  | .hbm, ⟨38, _⟩ => ⟨S4x8x8192x8192, .f32⟩
  | .hbm, ⟨39, _⟩ => ⟨S4x8x8192x8192, .f32⟩
  | .hbm, ⟨40, _⟩ => ⟨S4x8x8192x8192, .f32⟩
  | .hbm, ⟨41, _⟩ => ⟨S_, .f32⟩
  | .hbm, ⟨42, _⟩ => ⟨S4x8x8192, .f32⟩
  | .hbm, ⟨43, _⟩ => ⟨S4x8x8192x1, .f32⟩
  | .hbm, ⟨44, _⟩ => ⟨S4x8x8192x8192, .f32⟩
  | .hbm, ⟨45, _⟩ => ⟨S4x8x8192x8192, .f32⟩
  | .hbm, ⟨46, _⟩ => ⟨S4x8x64x8192, .f32⟩
  | .hbm, ⟨47, _⟩ => ⟨S4x8192x8x64, .f32⟩
  | .hbm, ⟨48, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x2x2816 : Shape := ⟨3, ![4, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S1x256x1024 : Shape := ⟨3, ![1, 256, 1024]⟩
abbrev S1x2x2816 : Shape := ⟨3, ![1, 2, 2816]⟩
abbrev S2x2816 : Shape := ⟨2, ![2, 2816]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x2x2816, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S4x8192x1024, .f32⟩
  | .hbm, ⟨14, _⟩ => ⟨S4x2x2816, .f32⟩
  | .local _ .vmem, ⟨0, _⟩ => ⟨S1x256x1024, .f32⟩
  | .local _ .vmem, ⟨1, _⟩ => ⟨S1x256x1024, .f32⟩
  | .local _ .vmem, ⟨2, _⟩ => ⟨S1x2x2816, .f32⟩
  | .local _ .vmem, ⟨3, _⟩ => ⟨S1x2x2816, .f32⟩
  | .local _ .vmem, ⟨4, _⟩ => ⟨S1024x5632, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x2x2816, .f32⟩
  | .local _ .vmem, ⟨13, _⟩ => ⟨S1x2x2816, .f32⟩
  | .local _ .vmem, ⟨14, _⟩ => ⟨S2x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4x8192x1024 : Shape := ⟨3, ![4, 8192, 1024]⟩
abbrev S4x2x2816 : Shape := ⟨3, ![4, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x2x2816, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4x8192x5632, .f32⟩
  | .hbm, ⟨9, _⟩ => ⟨S4x8192x2816, .f32⟩
  | .hbm, ⟨10, _⟩ => ⟨S4x8192x2816, .f32⟩
  | .hbm, ⟨11, _⟩ => ⟨S4x8194x2816, .f32⟩
  | .hbm, ⟨12, _⟩ => ⟨S1x2816, .f32⟩
  | .hbm, ⟨13, _⟩ => ⟨S2816, .f32⟩
  | .hbm, ⟨14, _⟩ => ⟨S4x8192x2816, .f32⟩
  | .hbm, ⟨15, _⟩ => ⟨S1x1x2816, .f32⟩
  | .hbm, ⟨16, _⟩ => ⟨S4x8192x2816, .f32⟩
  | .hbm, ⟨17, _⟩ => ⟨S4x8192x2816, .f32⟩
  | .hbm, ⟨18, _⟩ => ⟨S_, .f32⟩
  | .hbm, ⟨19, _⟩ => ⟨S4x8192x2816, .f32⟩
  | .hbm, ⟨20, _⟩ => ⟨S4x8192x2816, .f32⟩
  | .hbm, ⟨21, _⟩ => ⟨S1x2816, .f32⟩
  | .hbm, ⟨22, _⟩ => ⟨S2816, .f32⟩
  | .hbm, ⟨23, _⟩ => ⟨S4x8192x2816, .f32⟩
  | .hbm, ⟨24, _⟩ => ⟨S1x1x2816, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S1x2816, .f32⟩
  | .hbm, ⟨29, _⟩ => ⟨S2816, .f32⟩
  | .hbm, ⟨30, _⟩ => ⟨S4x8192x2816, .f32⟩
  | .hbm, ⟨31, _⟩ => ⟨S1x1x2816, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S1x1x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S_, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S_, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S4x8192x1024, .f32⟩
  | .hbm, ⟨77, _⟩ => ⟨S4x8192x1024, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S1x1x1024, .f32⟩
  | .hbm, ⟨85, _⟩ => ⟨S4x8192x1024, .f32⟩
  | .hbm, ⟨86, _⟩ => ⟨S4x8192x1024, .f32⟩
  | .hbm, ⟨87, _⟩ => ⟨S1x1x1024, .f32⟩
  | .hbm, ⟨88, _⟩ => ⟨S4x8192x1024, .f32⟩
  | .hbm, ⟨89, _⟩ => ⟨S4x8192x1024, .f32⟩
  | .hbm, ⟨90, _⟩ => ⟨S4x2x2816, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Proof.KernelFrame.lean ====
/-
  The frame of `Kernel`: every execution ends, the four argument arrays end as they began and every semaphore counter ends
  at zero. The result's contents are not followed here (its window is FORGOTTEN); they are in Body.lean, for the
  idealised program.
-/
module

public import proofs.«01_k».proof.Proof.Gen.Kernel.Frame
public import proofs.«01_k».proof.Proof.Gen.Kernel.Loops
public import proofs.«01_k».proof.Proof.Gen.Kernel.Skeleton
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second branch is taken exactly where the first is not. -/
theorem cond2_iff (i : grid0.Coords) : k0_cond2 i = 1#1 ↔ ¬ k0_cond1 i = 1#1 := by
  have h : ∀ n : Fin 16, ∀ j : grid0.Coords, (j 2).val = n.val → (k0_cond2 j = 1#1 ↔ ¬ k0_cond1 j = 1#1) := by
    intro n j hj
    unfold k0_cond2 k0_cond1
    rw [hj]
    clear hj
    revert n
    decide +kernel
  exact h ⟨(i 2).val, (i 2).isLt⟩ i rfl

/-- The body on whole memrefs: the inputs come back as they were, the result and the three scratch arrays at some contents. -/
theorem body_runs (c : Dev nD) (E : Set ℕ) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (x3 : Vec F S1x512x256 .bf16) (x4 : Vec F S1x8192x256 .bf16) (x5 : Vec F S1x16x160x512 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0_fox_prompt i arg3 harg3 arg4 harg4 arg5 harg5 arg6 harg6 arg7 harg7 arg8 harg8 arg9 harg9) K := by
  simp only [cc0_fox_prompt_eq_skeleton]; unfold cc0_fox_prompt_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf3 hf4 hf5
  by_cases h1 : k0_cond1 i = 1#1
  · have h2 : ¬ k0_cond2 i = 1#1 := fun h => (cond2_iff i).1 h h1
    sl_exec
    sl_step
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists _; iexists _; isplitr; swap; · iexact H6
                    ipureintro; rfl
    isplitl [H7]; · iexists _; iexists _; isplitr; swap; · iexact H7
                    ipureintro; rfl
    isplitl [H8]; · iexists _; iexists _; isplitr; swap; · iexact H8
                    ipureintro; rfl
    iexists _; iexists _; isplitr; swap; · iexact H9
    ipureintro; rfl
  · have h2 : k0_cond2 i = 1#1 := (cond2_iff i).2 h1
    sl_exec
    sl_step
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists _; iexists _; isplitr; swap; · iexact H6
                    ipureintro; rfl
    isplitl [H7]; · iexists _; iexists _; isplitr; swap; · iexact H7
                    ipureintro; rfl
    isplitl [H8]; · iexists _; iexists _; isplitr; swap; · iexact H8
                    ipureintro; rfl
    iexists _; iexists _; isplitr; swap; · iexact H9
    ipureintro; rfl

/-! ## The pipeline's proof data -/

/-- The arrays as the region finds them; each input's buffer at its block; the result's forgotten (any contents serve). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- The windows nothing is said of: the result's. -/
def fgt : Fin cfg0.W → Bool
  | 0 => false
  | 1 => false
  | 2 => false
  | 3 => true
  | ⟨_ + 4, h⟩ => absurd h (Nat.not_lt.2 (Nat.le_add_left _ _))

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Each point's body, from the windows' buffers and the scratch to the same. -/
theorem body_obligation (c : Dev nD) :
    BodyObligation (dats (F := F) m 0 c) (defs₀ (F := F)) Variants.none () Set.univ fgt := fun t => by
  rw [bigSep_W0, bigSep_W0]
  sl_whnfR [defs₀, Defs.onTc]
  simp only [fgt, before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2]
  unfold Pipeline.ΦA
  rw [scopedRest0_eq]
  simp only [← owns_whole (c : Thread nD τ)]
  iintro ⟨⟨⟨H7, H8, H9⟩, HΦ⟩, Ho, ⟨%d0, H0⟩, ⟨%d1, H1⟩, ⟨%d2, H2⟩, H3⟩
  iapply (body_runs c Set.univ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [HΦ H7 H8 H9]
  · isplitr [HΦ]
    · isplitl [H7]; · iexact H7
      isplitl [H8]; · iexact H8
      iexact H9
    · iexact HΦ
  isplitl [Ho]; · iexact Ho
  isplitl [H0]; · iexact H0
  isplitl [H1]; · iexact H1
  isplitl [H2]; · iexact H2
  iexact H3

/-! ## The run and the frame -/

-- `θ_run_frame_forget`'s implicit arguments are found by unifying its conclusion with this one, which takes unfolding plain
-- definitions in a metavariable's type
set_option backward.isDefEq.respectTransparency.types false in
/-- Every execution of the program ends, with what the pipeline leaves and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ (h : _ ∧ _) => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.KernelFrame

end
-- ==== Proof.Steps.lean ====
/-
  What one grid point of the idealised kernel computes, as plain functions of the blocks of the queries, keys and values, and
  the trip of its loop over pairs of key tiles as two steps of these functions.
-/
module

public import proofs.«01_k».proof.Proof.Gen.KernelIdeal.Loops
public import Idealize.ShloMosaic.Lib.VecWindow
public import Idealize.ShloMosaic.Lib.Pipeline.ReadBack

@[expose] public section

set_option maxRecDepth 16384

noncomputable section

namespace Cert.Proof.Fox

open Cert.KernelIdeal Cert.KernelIdeal.Gen
open Idealize.ShloMosaic Idealize.ShloMosaic.TcCoe

variable {F : FTy → Type} [FloatOps F] [Named F]

/-! ## Reading back what a list of stores left -/

section
variable {sig' : RefSig} {κ' : Kind} {sp : Space} {s : Shape} {e : EltTy}

/-- The box stored last reads what was stored. -/
theorem read_last (v : View sig' κ' sp s e) (f : v.ty.Contents (Elt F)) (r : Rect s) (w : r.shape.Idx → Elt F e) (L : List (View.Piece (Elt F) s e)) :
    v.readAt (Elt F) r.toLoadRect (v.writes (Elt F) f (⟨r, w⟩ :: L)) = w := by
  rw [View.readAt_writes_of_cover v f _ _ (fun j => ⟨_, List.mem_cons_self, by exact r.idx_mem j⟩), View.readCov_cons_toLoadRect]

/-- A box away from the one stored last reads what the earlier stores left. -/
theorem read_skip (v : View sig' κ' sp s e) (f : v.ty.Contents (Elt F)) (r : Rect s) (w : r.shape.Idx → Elt F e) (L : List (View.Piece (Elt F) s e))
    (B : LoadRect s) (h : LoadRect.disj r B = true) :
    v.readAt (Elt F) B (v.writes (Elt F) f (⟨r, w⟩ :: L)) = v.readAt (Elt F) B (v.writes (Elt F) f L) := by
  rw [show (⟨r, w⟩ :: L : List (View.Piece (Elt F) s e)) = [⟨r, w⟩] ++ L from rfl, View.writes_append]
  refine View.readAt_writes_of_forall_not_mem v _ _ B fun j p hp => ?_
  rw [List.mem_singleton] at hp
  subst hp
  exact LoadRect.idx_not_mem_of_disj h j
end

section
variable {sig' : RefSig} {κ' : Kind} {sp : Space} {s : Shape} {e : EltTy}

/-- A box inside the one stored last reads that part of what was stored. -/
theorem read_sub (v : View sig' κ' sp s e) (f : v.ty.Contents (Elt F)) (off size off' size' o : Fin s.rank → ℕ)
    (inb : ∀ a, off a + size a ≤ s.size a) (inb' : ∀ a, off' a + size' a ≤ s.size a) (inbo : ∀ a, o a + size' a ≤ size a)
    (h : ∀ a, off' a = off a + o a) (w : (Rect.unit off size inb).shape.Idx → Elt F e) (L : List (View.Piece (Elt F) s e)) :
    v.readAt (Elt F) (Rect.unit off' size' inb').toLoadRect (v.writes (Elt F) f (⟨Rect.unit off size inb, w⟩ :: L))
      = fun x => w (fun a => ⟨o a + (x a).val, Nat.lt_of_lt_of_le (Nat.add_lt_add_left (x a).isLt _) (inbo a)⟩) := by
  have hw := read_last v f (Rect.unit off size inb) w L
  funext x
  refine Eq.trans ?_ (congrFun hw _)
  rw [View.readAt_unit v _ inb' rfl inb', View.readAt_unit v _ inb rfl inb]
  refine congrArg (v.read (Elt F) _) (funext fun a => Fin.ext ?_)
  show off' a + 1 * (x a).val = off a + 1 * (o a + (x a).val)
  rw [h a, Nat.one_mul, Nat.one_mul, Nat.add_assoc]
end

/-! ## The steps of the running softmax -/

/-- The running maximum with one block of scores taken in, column by column. -/
def rowMax (m : FVec F S1x512 .f32) (s : FVec F S256x512 .f32) : FVec F S1x512 .f32 :=
  maximumf m (shapeCast S1x512 (multiReduction .maximumf [0] S512 s 0xFF800000#32 reduces_S256x512_S512 (.inl rfl) rfl) shapeCasts_S512_S1x512)

/-- The block's weights at a running maximum. -/
def prob (s : FVec F S256x512 .f32) (m : FVec F S1x512 .f32) : FVec F S256x512 .bf16 :=
  truncf .bf16 (exp2 (subf s (broadcastTo S256x512 m broadcasts_S1x512_S256x512))) bitsLt_bf16_f32

/-- The factor by which the sums so far are rescaled as the maximum goes from `m` to `m'`. -/
def rescale (m m' : FVec F S1x512 .f32) : FVec F S1x512 .f32 := exp2 (subf m m')

/-- The sums so far rescaled, and the block's weighted values added. -/
def accum (α : FVec F S1x512 .f32) (a : FVec F S80x512 .f32) (v : Vec F S1x1x80x256 .bf16) (p : FVec F S256x512 .bf16) : FVec F S80x512 .f32 :=
  addf (mulf (broadcastTo S80x512 α broadcasts_S1x512_S80x512) a)
    (matmul dot_S80x256_S256x512_S80x512_1_0_0_1_n_n none (shapeCast S80x256 v shapeCasts_S1x1x80x256_S80x256) p (constant S80x512 .f32 0x00000000#32))

/-- The maximum after a tile's two blocks. -/
def newM (m : FVec F S1x512 .f32) (s0 s1 : FVec F S256x512 .f32) : FVec F S1x512 .f32 := rowMax (rowMax m s0) s1

/-- The sums after a tile's two blocks. -/
def newA (m : FVec F S1x512 .f32) (a : FVec F S80x512 .f32) (s0 s1 : FVec F S256x512 .f32) (v0 v1 : Vec F S1x1x80x256 .bf16) : FVec F S80x512 .f32 :=
  accum (rescale (rowMax m s0) (newM m s0 s1)) (accum (rescale m (rowMax m s0)) a v0 (prob s0 (rowMax m s0))) v1 (prob s1 (newM m s0 s1))

/-- A head's maximum as the scratch holds it, -/
def unM (m : Vec F S1x1x512 .f32) : FVec F S1x512 .f32 := shapeCast S1x512 m shapeCasts_S1x1x512_S1x512
/-- and back; -/
def layM (m : FVec F S1x512 .f32) : Vec F S1x1x512 .f32 := shapeCast S1x1x512 m shapeCasts_S1x512_S1x1x512
/-- its sums as the scratch holds them, -/
def unA (a : Vec F S1x80x512 .f32) : FVec F S80x512 .f32 := shapeCast S80x512 a shapeCasts_S1x80x512_S80x512
/-- and back; -/
def layA (a : FVec F S80x512 .f32) : Vec F S1x80x512 .f32 := shapeCast S1x80x512 a shapeCasts_S80x512_S1x80x512
/-- a block of scores as the scratch holds it. -/
def unS (s : Vec F S1x1x256x512 .f32) : FVec F S256x512 .f32 := shapeCast S256x512 s shapeCasts_S1x1x256x512_S256x512

/-- A block of scores: 256 keys against 512 queries. -/
def score (k : Vec F S1x256x128 .bf16) (q : Vec F S1x512x128 .bf16) : Vec F S1x1x256x512 .f32 :=
  shapeCast S1x1x256x512 (matmul dot_S256x128_S512x128_S256x512_1_1_0_0_n_n none (shapeCast S256x128 k shapeCasts_S1x256x128_S256x128)
    (shapeCast S512x128 q shapeCasts_S1x512x128_S512x128) (constant S256x512 .f32 0x00000000#32)) shapeCasts_S256x512_S1x1x256x512

/-- The causal mask of a block on the diagonal, whose first key has number `o` of the tile. -/
def masked (o : BitVec 32) (s : FVec F S256x512 .f32) : FVec F S256x512 .f32 :=
  select (cmpi .sle (addi (iota .tc S256x512 32 [0] iota_S256x512_d0_w32) (broadcast S256x512 o)) (iota .tc S256x512 32 [1] iota_S256x512_d1_w32)) s
    (broadcast S256x512 (Named.named κ "mask" 0xF149F2CA#32))

/-! ## The blocks of one grid point -/

theorem kinb (j : ℕ) (sub h : Fin 2) : ∀ a, (![0, 512 * (j % 16) + 256 * sub.val, 128 * h.val] : Fin 3 → ℕ) a + S1x256x128.size a ≤ S1x8192x256.size a := by
  have h1 := Nat.mod_lt j (show 16 > 0 by decide)
  have h2 := sub.isLt
  have h3 := h.isLt
  intro a
  match a with
  | ⟨0, _⟩ => exact Nat.le_refl 1
  | ⟨1, _⟩ => show 512 * (j % 16) + 256 * sub.val + 256 ≤ 8192; omega
  | ⟨2, _⟩ => show 128 * h.val + 128 ≤ 256; omega

theorem qinb (h : Fin 2) : ∀ a, (![0, 0, 128 * h.val] : Fin 3 → ℕ) a + S1x512x128.size a ≤ S1x512x256.size a := by
  have h3 := h.isLt
  intro a
  match a with
  | ⟨0, _⟩ => exact Nat.le_refl 1
  | ⟨1, _⟩ => exact Nat.le_refl 512
  | ⟨2, _⟩ => show 128 * h.val + 128 ≤ 256; omega

theorem vinb (j : ℕ) (sub h : Fin 2) : ∀ a, (![0, j % 16, 80 * h.val, 256 * sub.val] : Fin 4 → ℕ) a + S1x1x80x256.size a ≤ S1x16x160x512.size a := by
  have h1 := Nat.mod_lt j (show 16 > 0 by decide)
  have h2 := sub.isLt
  have h3 := h.isLt
  intro a
  match a with
  | ⟨0, _⟩ => exact Nat.le_refl 1
  | ⟨1, _⟩ => show j % 16 + 1 ≤ 16; omega
  | ⟨2, _⟩ => show 80 * h.val + 80 ≤ 160; omega
  | ⟨3, _⟩ => show 256 * sub.val + 256 ≤ 512; omega

/-- Keys `512 j + 256 sub …` of head `h`, -/
def kblk (x4 : Vec F S1x8192x256 .bf16) (j : ℕ) (sub h : Fin 2) : Vec F S1x256x128 .bf16 :=
  VecWindow.window x4 ![0, 512 * (j % 16) + 256 * sub.val, 128 * h.val] S1x256x128.size (kinb j sub h)
/-- the point's queries of head `h`, -/
def qblk (x3 : Vec F S1x512x256 .bf16) (h : Fin 2) : Vec F S1x512x128 .bf16 :=
  VecWindow.window x3 ![0, 0, 128 * h.val] S1x512x128.size (qinb h)
/-- and the values of those keys, transposed, a row of ones below them. -/
def vblk (x5 : Vec F S1x16x160x512 .bf16) (j : ℕ) (sub h : Fin 2) : Vec F S1x1x80x256 .bf16 :=
  VecWindow.window x5 ![0, j % 16, 80 * h.val, 256 * sub.val] S1x1x80x256.size (vinb j sub h)

/-- The scores of tile `j`, block `sub`, head `h`. -/
def sc (x3 : Vec F S1x512x256 .bf16) (x4 : Vec F S1x8192x256 .bf16) (j : ℕ) (sub h : Fin 2) : Vec F S1x1x256x512 .f32 :=
  score (kblk x4 j sub h) (qblk x3 h)

/-- Head `h`'s maximum before tile `j`, -/
def mAt (x3 : Vec F S1x512x256 .bf16) (x4 : Vec F S1x8192x256 .bf16) (h : Fin 2) : ℕ → Vec F S1x1x512 .f32
  | 0 => layM (broadcast S1x512 (Named.named κ "mask" 0xF149F2CA#32))
  | j + 1 => layM (newM (unM (mAt x3 x4 h j)) (unS (sc x3 x4 j 0 h)) (unS (sc x3 x4 j 1 h)))

/-- and its sums. -/
def aAt (x3 : Vec F S1x512x256 .bf16) (x4 : Vec F S1x8192x256 .bf16) (x5 : Vec F S1x16x160x512 .bf16) (h : Fin 2) : ℕ → Vec F S1x80x512 .f32
  | 0 => layA (broadcast S80x512 (Scalar.ofBits .f32 0x00000000#32))
  | j + 1 => layA (newA (unM (mAt x3 x4 h j)) (unA (aAt x3 x4 x5 h j)) (unS (sc x3 x4 j 0 h)) (unS (sc x3 x4 j 1 h)) (vblk x5 j 0 h) (vblk x5 j 1 h))

/-- The sums after the diagonal tile `j`, masked. -/
def aEnd (x3 : Vec F S1x512x256 .bf16) (x4 : Vec F S1x8192x256 .bf16) (x5 : Vec F S1x16x160x512 .bf16) (h : Fin 2) (j : ℕ) : Vec F S1x80x512 .f32 :=
  layA (newA (unM (mAt x3 x4 h j)) (unA (aAt x3 x4 x5 h j)) (masked 0#32 (unS (sc x3 x4 j 0 h))) (masked 256#32 (unS (sc x3 x4 j 1 h)))
    (vblk x5 j 0 h) (vblk x5 j 1 h))

/-! ## The offsets of a trip's loads -/

theorem off3_10 (i : grid0.Coords) (k : Fin (k0_t1_loop i).trips) :
    k0_off3 i k 1#32 0#32 = ![0, 512 * ((2 * k.val + 1) % 16) + 256 * (0 : Fin 2).val, 128 * (0 : Fin 2).val] := by
  have h : ∀ n : Fin 7, (![0, (Scalar.indexCast (Scalar.addi (Scalar.muli (Scalar.addi (Scalar.muli 2#32 (Scf.iv 0#32 1#32 n.val)) 1#32) 512#32) 0#32)).toNat, 0] : Fin 3 → ℕ)
      = ![0, 512 * ((2 * n.val + 1) % 16) + 256 * (0 : Fin 2).val, 128 * (0 : Fin 2).val] := by decide +kernel
  exact h ⟨k.val, Nat.lt_of_lt_of_le k.isLt (k0_t1_abs i).2.1⟩

theorem off3_11 (i : grid0.Coords) (k : Fin (k0_t1_loop i).trips) :
    k0_off3 i k 1#32 256#32 = ![0, 512 * ((2 * k.val + 1) % 16) + 256 * (1 : Fin 2).val, 128 * (0 : Fin 2).val] := by
  have h : ∀ n : Fin 7, (![0, (Scalar.indexCast (Scalar.addi (Scalar.muli (Scalar.addi (Scalar.muli 2#32 (Scf.iv 0#32 1#32 n.val)) 1#32) 512#32) 256#32)).toNat, 0] : Fin 3 → ℕ)
      = ![0, 512 * ((2 * n.val + 1) % 16) + 256 * (1 : Fin 2).val, 128 * (0 : Fin 2).val] := by decide +kernel
  exact h ⟨k.val, Nat.lt_of_lt_of_le k.isLt (k0_t1_abs i).2.1⟩

theorem off3_20 (i : grid0.Coords) (k : Fin (k0_t1_loop i).trips) :
    k0_off3 i k 2#32 0#32 = ![0, 512 * ((2 * k.val + 2) % 16) + 256 * (0 : Fin 2).val, 128 * (0 : Fin 2).val] := by
  have h : ∀ n : Fin 7, (![0, (Scalar.indexCast (Scalar.addi (Scalar.muli (Scalar.addi (Scalar.muli 2#32 (Scf.iv 0#32 1#32 n.val)) 2#32) 512#32) 0#32)).toNat, 0] : Fin 3 → ℕ)
      = ![0, 512 * ((2 * n.val + 2) % 16) + 256 * (0 : Fin 2).val, 128 * (0 : Fin 2).val] := by decide +kernel
  exact h ⟨k.val, Nat.lt_of_lt_of_le k.isLt (k0_t1_abs i).2.1⟩

theorem off3_21 (i : grid0.Coords) (k : Fin (k0_t1_loop i).trips) :
    k0_off3 i k 2#32 256#32 = ![0, 512 * ((2 * k.val + 2) % 16) + 256 * (1 : Fin 2).val, 128 * (0 : Fin 2).val] := by
  have h : ∀ n : Fin 7, (![0, (Scalar.indexCast (Scalar.addi (Scalar.muli (Scalar.addi (Scalar.muli 2#32 (Scf.iv 0#32 1#32 n.val)) 2#32) 512#32) 256#32)).toNat, 0] : Fin 3 → ℕ)
      = ![0, 512 * ((2 * n.val + 2) % 16) + 256 * (1 : Fin 2).val, 128 * (0 : Fin 2).val] := by decide +kernel
  exact h ⟨k.val, Nat.lt_of_lt_of_le k.isLt (k0_t1_abs i).2.1⟩

theorem off4_10 (i : grid0.Coords) (k : Fin (k0_t1_loop i).trips) :
    k0_off4 i k 1#32 0#32 = ![0, 512 * ((2 * k.val + 1) % 16) + 256 * (0 : Fin 2).val, 128 * (1 : Fin 2).val] := by
  have h : ∀ n : Fin 7, (![0, (Scalar.indexCast (Scalar.addi (Scalar.muli (Scalar.addi (Scalar.muli 2#32 (Scf.iv 0#32 1#32 n.val)) 1#32) 512#32) 0#32)).toNat, 128] : Fin 3 → ℕ)
      = ![0, 512 * ((2 * n.val + 1) % 16) + 256 * (0 : Fin 2).val, 128 * (1 : Fin 2).val] := by decide +kernel
  exact h ⟨k.val, Nat.lt_of_lt_of_le k.isLt (k0_t1_abs i).2.1⟩

theorem off4_11 (i : grid0.Coords) (k : Fin (k0_t1_loop i).trips) :
    k0_off4 i k 1#32 256#32 = ![0, 512 * ((2 * k.val + 1) % 16) + 256 * (1 : Fin 2).val, 128 * (1 : Fin 2).val] := by
  have h : ∀ n : Fin 7, (![0, (Scalar.indexCast (Scalar.addi (Scalar.muli (Scalar.addi (Scalar.muli 2#32 (Scf.iv 0#32 1#32 n.val)) 1#32) 512#32) 256#32)).toNat, 128] : Fin 3 → ℕ)
      = ![0, 512 * ((2 * n.val + 1) % 16) + 256 * (1 : Fin 2).val, 128 * (1 : Fin 2).val] := by decide +kernel
  exact h ⟨k.val, Nat.lt_of_lt_of_le k.isLt (k0_t1_abs i).2.1⟩

theorem off4_20 (i : grid0.Coords) (k : Fin (k0_t1_loop i).trips) :
    k0_off4 i k 2#32 0#32 = ![0, 512 * ((2 * k.val + 2) % 16) + 256 * (0 : Fin 2).val, 128 * (1 : Fin 2).val] := by
  have h : ∀ n : Fin 7, (![0, (Scalar.indexCast (Scalar.addi (Scalar.muli (Scalar.addi (Scalar.muli 2#32 (Scf.iv 0#32 1#32 n.val)) 2#32) 512#32) 0#32)).toNat, 128] : Fin 3 → ℕ)
      = ![0, 512 * ((2 * n.val + 2) % 16) + 256 * (0 : Fin 2).val, 128 * (1 : Fin 2).val] := by decide +kernel
  exact h ⟨k.val, Nat.lt_of_lt_of_le k.isLt (k0_t1_abs i).2.1⟩

theorem off4_21 (i : grid0.Coords) (k : Fin (k0_t1_loop i).trips) :
    k0_off4 i k 2#32 256#32 = ![0, 512 * ((2 * k.val + 2) % 16) + 256 * (1 : Fin 2).val, 128 * (1 : Fin 2).val] := by
  have h : ∀ n : Fin 7, (![0, (Scalar.indexCast (Scalar.addi (Scalar.muli (Scalar.addi (Scalar.muli 2#32 (Scf.iv 0#32 1#32 n.val)) 2#32) 512#32) 256#32)).toNat, 128] : Fin 3 → ℕ)
      = ![0, 512 * ((2 * n.val + 2) % 16) + 256 * (1 : Fin 2).val, 128 * (1 : Fin 2).val] := by decide +kernel
  exact h ⟨k.val, Nat.lt_of_lt_of_le k.isLt (k0_t1_abs i).2.1⟩

theorem off5 (i : grid0.Coords) (k : Fin (k0_t1_loop i).trips) :
    k0_off5 i k = ![0, (2 * k.val) % 16, 80 * (0 : Fin 2).val, 256 * (0 : Fin 2).val] := by
  have h : ∀ n : Fin 7, (![0, (Scalar.indexCast (Scalar.muli 2#32 (Scf.iv 0#32 1#32 n.val))).toNat, 0, 0] : Fin 4 → ℕ)
      = ![0, (2 * n.val) % 16, 80 * (0 : Fin 2).val, 256 * (0 : Fin 2).val] := by decide +kernel
  exact h ⟨k.val, Nat.lt_of_lt_of_le k.isLt (k0_t1_abs i).2.1⟩

theorem off6 (i : grid0.Coords) (k : Fin (k0_t1_loop i).trips) :
    k0_off6 i k = ![0, (2 * k.val) % 16, 80 * (1 : Fin 2).val, 256 * (0 : Fin 2).val] := by
  have h : ∀ n : Fin 7, (![0, (Scalar.indexCast (Scalar.muli 2#32 (Scf.iv 0#32 1#32 n.val))).toNat, 80, 0] : Fin 4 → ℕ)
      = ![0, (2 * n.val) % 16, 80 * (1 : Fin 2).val, 256 * (0 : Fin 2).val] := by decide +kernel
  exact h ⟨k.val, Nat.lt_of_lt_of_le k.isLt (k0_t1_abs i).2.1⟩

theorem off7 (i : grid0.Coords) (k : Fin (k0_t1_loop i).trips) :
    k0_off7 i k = ![0, (2 * k.val) % 16, 80 * (0 : Fin 2).val, 256 * (1 : Fin 2).val] := by
  have h : ∀ n : Fin 7, (![0, (Scalar.indexCast (Scalar.muli 2#32 (Scf.iv 0#32 1#32 n.val))).toNat, 0, 256] : Fin 4 → ℕ)
      = ![0, (2 * n.val) % 16, 80 * (0 : Fin 2).val, 256 * (1 : Fin 2).val] := by decide +kernel
  exact h ⟨k.val, Nat.lt_of_lt_of_le k.isLt (k0_t1_abs i).2.1⟩

theorem off8 (i : grid0.Coords) (k : Fin (k0_t1_loop i).trips) :
    k0_off8 i k = ![0, (2 * k.val) % 16, 80 * (1 : Fin 2).val, 256 * (1 : Fin 2).val] := by
  have h : ∀ n : Fin 7, (![0, (Scalar.indexCast (Scalar.muli 2#32 (Scf.iv 0#32 1#32 n.val))).toNat, 80, 256] : Fin 4 → ℕ)
      = ![0, (2 * n.val) % 16, 80 * (1 : Fin 2).val, 256 * (1 : Fin 2).val] := by decide +kernel
  exact h ⟨k.val, Nat.lt_of_lt_of_le k.isLt (k0_t1_abs i).2.1⟩

theorem off9 (i : grid0.Coords) (k : Fin (k0_t1_loop i).trips) :
    k0_off9 i k = ![0, (2 * k.val + 1) % 16, 80 * (0 : Fin 2).val, 256 * (0 : Fin 2).val] := by
  have h : ∀ n : Fin 7, (![0, (Scalar.indexCast (Scalar.addi (Scalar.muli 2#32 (Scf.iv 0#32 1#32 n.val)) 1#32)).toNat, 0, 0] : Fin 4 → ℕ)
      = ![0, (2 * n.val + 1) % 16, 80 * (0 : Fin 2).val, 256 * (0 : Fin 2).val] := by decide +kernel
  exact h ⟨k.val, Nat.lt_of_lt_of_le k.isLt (k0_t1_abs i).2.1⟩

theorem off10 (i : grid0.Coords) (k : Fin (k0_t1_loop i).trips) :
    k0_off10 i k = ![0, (2 * k.val + 1) % 16, 80 * (1 : Fin 2).val, 256 * (0 : Fin 2).val] := by
  have h : ∀ n : Fin 7, (![0, (Scalar.indexCast (Scalar.addi (Scalar.muli 2#32 (Scf.iv 0#32 1#32 n.val)) 1#32)).toNat, 80, 0] : Fin 4 → ℕ)
      = ![0, (2 * n.val + 1) % 16, 80 * (1 : Fin 2).val, 256 * (0 : Fin 2).val] := by decide +kernel
  exact h ⟨k.val, Nat.lt_of_lt_of_le k.isLt (k0_t1_abs i).2.1⟩

theorem off11 (i : grid0.Coords) (k : Fin (k0_t1_loop i).trips) :
    k0_off11 i k = ![0, (2 * k.val + 1) % 16, 80 * (0 : Fin 2).val, 256 * (1 : Fin 2).val] := by
  have h : ∀ n : Fin 7, (![0, (Scalar.indexCast (Scalar.addi (Scalar.muli 2#32 (Scf.iv 0#32 1#32 n.val)) 1#32)).toNat, 0, 256] : Fin 4 → ℕ)
      = ![0, (2 * n.val + 1) % 16, 80 * (0 : Fin 2).val, 256 * (1 : Fin 2).val] := by decide +kernel
  exact h ⟨k.val, Nat.lt_of_lt_of_le k.isLt (k0_t1_abs i).2.1⟩

theorem off12 (i : grid0.Coords) (k : Fin (k0_t1_loop i).trips) :
    k0_off12 i k = ![0, (2 * k.val + 1) % 16, 80 * (1 : Fin 2).val, 256 * (1 : Fin 2).val] := by
  have h : ∀ n : Fin 7, (![0, (Scalar.indexCast (Scalar.addi (Scalar.muli 2#32 (Scf.iv 0#32 1#32 n.val)) 1#32)).toNat, 80, 256] : Fin 4 → ℕ)
      = ![0, (2 * n.val + 1) % 16, 80 * (1 : Fin 2).val, 256 * (1 : Fin 2).val] := by decide +kernel
  exact h ⟨k.val, Nat.lt_of_lt_of_le k.isLt (k0_t1_abs i).2.1⟩

/-! ## A trip of the loop over pairs of tiles -/

/-- What the three scratch arrays read before tile `j`: its scores in the first slot, and each head's maximum and sums. -/
structure Held (x3 : Vec F S1x512x256 .bf16) (x4 : Vec F S1x8192x256 .bf16) (x5 : Vec F S1x16x160x512 .bf16)
    (arg7 : Memref sig .tc .vmem S2x4x256x512 .f32) (arg8 : Memref sig .tc .vmem S2x1x512 .f32) (arg9 : Memref sig .tc .vmem S2x80x512 .f32)
    (j : ℕ) (g7 : BufTy.Contents (Elt F) arg7.view.ty) (g8 : BufTy.Contents (Elt F) arg8.view.ty) (g9 : BufTy.Contents (Elt F) arg9.view.ty) : Prop where
  s00 : View.readAt (Elt F) arg7.view (Rect.unit (s := S2x4x256x512) ![0, 0, 0, 0] S1x1x256x512.size inb_S2x4x256x512_S1x1x256x512_0_0_0_0).toLoadRect g7 = sc x3 x4 j 0 0
  s01 : View.readAt (Elt F) arg7.view (Rect.unit (s := S2x4x256x512) ![0, 1, 0, 0] S1x1x256x512.size inb_S2x4x256x512_S1x1x256x512_0_1_0_0).toLoadRect g7 = sc x3 x4 j 0 1
  s10 : View.readAt (Elt F) arg7.view (Rect.unit (s := S2x4x256x512) ![0, 2, 0, 0] S1x1x256x512.size inb_S2x4x256x512_S1x1x256x512_0_2_0_0).toLoadRect g7 = sc x3 x4 j 1 0
  s11 : View.readAt (Elt F) arg7.view (Rect.unit (s := S2x4x256x512) ![0, 3, 0, 0] S1x1x256x512.size inb_S2x4x256x512_S1x1x256x512_0_3_0_0).toLoadRect g7 = sc x3 x4 j 1 1
  m0 : View.readAt (Elt F) arg8.view (Rect.unit (s := S2x1x512) ![0, 0, 0] S1x1x512.size inb_S2x1x512_S1x1x512_0_0_0).toLoadRect g8 = mAt x3 x4 0 j
  m1 : View.readAt (Elt F) arg8.view (Rect.unit (s := S2x1x512) ![1, 0, 0] S1x1x512.size inb_S2x1x512_S1x1x512_1_0_0).toLoadRect g8 = mAt x3 x4 1 j
  a0 : View.readAt (Elt F) arg9.view (Rect.unit (s := S2x80x512) ![0, 0, 0] S1x80x512.size inb_S2x80x512_S1x80x512_0_0_0).toLoadRect g9 = aAt x3 x4 x5 0 j
  a1 : View.readAt (Elt F) arg9.view (Rect.unit (s := S2x80x512) ![1, 0, 0] S1x80x512.size inb_S2x80x512_S1x80x512_1_0_0).toLoadRect g9 = aAt x3 x4 x5 1 j

section
variable (𝒱 : Variants) (c : Dev nD) (bd : Option 𝒱.V) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
  (w2 : BitVec 32) (w52 : FVec F S256x128 .bf16) (w53 : Vec F S1x512x128 .bf16)
  (f3 : BufTy.Contents (Elt F) arg3.view.ty) (f4 : BufTy.Contents (Elt F) arg4.view.ty) (f5 : BufTy.Contents (Elt F) arg5.view.ty)

/-- A trip takes in two tiles, and leaves the scores of the tile after them in the first slot. -/
theorem held_trip (k : Fin (k0_t1_loop i).trips) (acc : BitVec 32) (g7 : BufTy.Contents (Elt F) arg7.view.ty)
    (g8 : BufTy.Contents (Elt F) arg8.view.ty) (g9 : BufTy.Contents (Elt F) arg9.view.ty)
    (H : Held (arg3.view.read (Elt F) f3) (arg4.view.read (Elt F) f4) (arg5.view.read (Elt F) f5) arg7 arg8 arg9 (2 * k.val) g7 g8 g9) :
    Held (arg3.view.read (Elt F) f3) (arg4.view.read (Elt F) f4) (arg5.view.read (Elt F) f5) arg7 arg8 arg9 (2 * k.val + 2)
      (arg7.view.writes (Elt F) g7 (tripL_k0_t1 (F := F) 𝒱 c bd i arg3 harg3 arg4 harg4 arg5 harg5 arg6 harg6 arg7 harg7 arg8 harg8 arg9 harg9 w2 w52 w53 f3 f4 f5 k acc g7 g8 g9).1)
      (arg8.view.writes (Elt F) g8 (tripL_k0_t1 (F := F) 𝒱 c bd i arg3 harg3 arg4 harg4 arg5 harg5 arg6 harg6 arg7 harg7 arg8 harg8 arg9 harg9 w2 w52 w53 f3 f4 f5 k acc g7 g8 g9).2.1)
      (arg9.view.writes (Elt F) g9 (tripL_k0_t1 (F := F) 𝒱 c bd i arg3 harg3 arg4 harg4 arg5 harg5 arg6 harg6 arg7 harg7 arg8 harg8 arg9 harg9 w2 w52 w53 f3 f4 f5 k acc g7 g8 g9).2.2) := by
  obtain ⟨s00, s01, s10, s11, m0, m1, a0, a1⟩ := H
  unfold tripL_k0_t1 trip_k0_t1
  dsimp only
  have k100 : ∀ inb, View.readAt (Elt F) arg4.view (Rect.unit (s := S1x8192x256) (k0_off3 i k 1#32 0#32) ![1, 256, 128] inb).toLoadRect f4
      = kblk (arg4.view.read (Elt F) f4) (2 * k.val + 1) 0 0 := fun inb => View.readAt_unit _ f4 inb (off3_10 i k) (kinb (2 * k.val + 1) 0 0)
  have k110 : ∀ inb, View.readAt (Elt F) arg4.view (Rect.unit (s := S1x8192x256) (k0_off3 i k 1#32 256#32) ![1, 256, 128] inb).toLoadRect f4
      = kblk (arg4.view.read (Elt F) f4) (2 * k.val + 1) 1 0 := fun inb => View.readAt_unit _ f4 inb (off3_11 i k) (kinb (2 * k.val + 1) 1 0)
  have k200 : ∀ inb, View.readAt (Elt F) arg4.view (Rect.unit (s := S1x8192x256) (k0_off3 i k 2#32 0#32) ![1, 256, 128] inb).toLoadRect f4
      = kblk (arg4.view.read (Elt F) f4) (2 * k.val + 2) 0 0 := fun inb => View.readAt_unit _ f4 inb (off3_20 i k) (kinb (2 * k.val + 2) 0 0)
  have k210 : ∀ inb, View.readAt (Elt F) arg4.view (Rect.unit (s := S1x8192x256) (k0_off3 i k 2#32 256#32) ![1, 256, 128] inb).toLoadRect f4
      = kblk (arg4.view.read (Elt F) f4) (2 * k.val + 2) 1 0 := fun inb => View.readAt_unit _ f4 inb (off3_21 i k) (kinb (2 * k.val + 2) 1 0)
  have k101 : ∀ inb, View.readAt (Elt F) arg4.view (Rect.unit (s := S1x8192x256) (k0_off4 i k 1#32 0#32) ![1, 256, 128] inb).toLoadRect f4
      = kblk (arg4.view.read (Elt F) f4) (2 * k.val + 1) 0 1 := fun inb => View.readAt_unit _ f4 inb (off4_10 i k) (kinb (2 * k.val + 1) 0 1)
  have k111 : ∀ inb, View.readAt (Elt F) arg4.view (Rect.unit (s := S1x8192x256) (k0_off4 i k 1#32 256#32) ![1, 256, 128] inb).toLoadRect f4
      = kblk (arg4.view.read (Elt F) f4) (2 * k.val + 1) 1 1 := fun inb => View.readAt_unit _ f4 inb (off4_11 i k) (kinb (2 * k.val + 1) 1 1)
  have k201 : ∀ inb, View.readAt (Elt F) arg4.view (Rect.unit (s := S1x8192x256) (k0_off4 i k 2#32 0#32) ![1, 256, 128] inb).toLoadRect f4
      = kblk (arg4.view.read (Elt F) f4) (2 * k.val + 2) 0 1 := fun inb => View.readAt_unit _ f4 inb (off4_20 i k) (kinb (2 * k.val + 2) 0 1)
  have k211 : ∀ inb, View.readAt (Elt F) arg4.view (Rect.unit (s := S1x8192x256) (k0_off4 i k 2#32 256#32) ![1, 256, 128] inb).toLoadRect f4
      = kblk (arg4.view.read (Elt F) f4) (2 * k.val + 2) 1 1 := fun inb => View.readAt_unit _ f4 inb (off4_21 i k) (kinb (2 * k.val + 2) 1 1)
  have v000 : ∀ inb, View.readAt (Elt F) arg5.view (Rect.unit (s := S1x16x160x512) (k0_off5 i k) ![1, 1, 80, 256] inb).toLoadRect f5
      = vblk (arg5.view.read (Elt F) f5) (2 * k.val) 0 0 := fun inb => View.readAt_unit _ f5 inb (off5 i k) (vinb (2 * k.val) 0 0)
  have v001 : ∀ inb, View.readAt (Elt F) arg5.view (Rect.unit (s := S1x16x160x512) (k0_off6 i k) ![1, 1, 80, 256] inb).toLoadRect f5
      = vblk (arg5.view.read (Elt F) f5) (2 * k.val) 0 1 := fun inb => View.readAt_unit _ f5 inb (off6 i k) (vinb (2 * k.val) 0 1)
  have v010 : ∀ inb, View.readAt (Elt F) arg5.view (Rect.unit (s := S1x16x160x512) (k0_off7 i k) ![1, 1, 80, 256] inb).toLoadRect f5
      = vblk (arg5.view.read (Elt F) f5) (2 * k.val) 1 0 := fun inb => View.readAt_unit _ f5 inb (off7 i k) (vinb (2 * k.val) 1 0)
  have v011 : ∀ inb, View.readAt (Elt F) arg5.view (Rect.unit (s := S1x16x160x512) (k0_off8 i k) ![1, 1, 80, 256] inb).toLoadRect f5
      = vblk (arg5.view.read (Elt F) f5) (2 * k.val) 1 1 := fun inb => View.readAt_unit _ f5 inb (off8 i k) (vinb (2 * k.val) 1 1)
  have v100 : ∀ inb, View.readAt (Elt F) arg5.view (Rect.unit (s := S1x16x160x512) (k0_off9 i k) ![1, 1, 80, 256] inb).toLoadRect f5
      = vblk (arg5.view.read (Elt F) f5) (2 * k.val + 1) 0 0 := fun inb => View.readAt_unit _ f5 inb (off9 i k) (vinb (2 * k.val + 1) 0 0)
  have v101 : ∀ inb, View.readAt (Elt F) arg5.view (Rect.unit (s := S1x16x160x512) (k0_off10 i k) ![1, 1, 80, 256] inb).toLoadRect f5
      = vblk (arg5.view.read (Elt F) f5) (2 * k.val + 1) 0 1 := fun inb => View.readAt_unit _ f5 inb (off10 i k) (vinb (2 * k.val + 1) 0 1)
  have v110 : ∀ inb, View.readAt (Elt F) arg5.view (Rect.unit (s := S1x16x160x512) (k0_off11 i k) ![1, 1, 80, 256] inb).toLoadRect f5
      = vblk (arg5.view.read (Elt F) f5) (2 * k.val + 1) 1 0 := fun inb => View.readAt_unit _ f5 inb (off11 i k) (vinb (2 * k.val + 1) 1 0)
  have v111 : ∀ inb, View.readAt (Elt F) arg5.view (Rect.unit (s := S1x16x160x512) (k0_off12 i k) ![1, 1, 80, 256] inb).toLoadRect f5
      = vblk (arg5.view.read (Elt F) f5) (2 * k.val + 1) 1 1 := fun inb => View.readAt_unit _ f5 inb (off12 i k) (vinb (2 * k.val + 1) 1 1)
  have q0 : ∀ inb, View.readAt (Elt F) arg3.view (Rect.unit (s := S1x512x256) ![0, 0, 0] ![1, 512, 128] inb).toLoadRect f3
      = qblk (arg3.view.read (Elt F) f3) 0 := fun inb => View.readAt_unit _ f3 inb rfl (qinb 0)
  have q1 : ∀ inb, View.readAt (Elt F) arg3.view (Rect.unit (s := S1x512x256) ![0, 0, 128] ![1, 512, 128] inb).toLoadRect f3
      = qblk (arg3.view.read (Elt F) f3) 1 := fun inb => View.readAt_unit _ f3 inb rfl (qinb 1)
  constructor
  all_goals simp (disch := decide) only [trip_k0_t1.sl.HW_arg7_8, trip_k0_t1.sl.HW_arg8_2, trip_k0_t1.sl.HW_arg9_2, trip_k0_t1.sl.arg10, trip_k0_t1.sl.cst_148, trip_k0_t1.sl.cst_167,
    trip_k0_t1.sl.cst_94, trip_k0_t1.sl.v116, trip_k0_t1.sl.v117, trip_k0_t1.sl.v118, trip_k0_t1.sl.v120, trip_k0_t1.sl.v121, trip_k0_t1.sl.v123,
    trip_k0_t1.sl.v125, trip_k0_t1.sl.v126, trip_k0_t1.sl.v128, trip_k0_t1.sl.v129, trip_k0_t1.sl.v133, trip_k0_t1.sl.v135, trip_k0_t1.sl.v136,
    trip_k0_t1.sl.v137, trip_k0_t1.sl.v138, trip_k0_t1.sl.v139, trip_k0_t1.sl.v140, trip_k0_t1.sl.v141, trip_k0_t1.sl.v143, trip_k0_t1.sl.v146,
    trip_k0_t1.sl.v147, trip_k0_t1.sl.v148, trip_k0_t1.sl.v149, trip_k0_t1.sl.v153, trip_k0_t1.sl.v156, trip_k0_t1.sl.v157, trip_k0_t1.sl.v158,
    trip_k0_t1.sl.v159, trip_k0_t1.sl.v161, trip_k0_t1.sl.v163, trip_k0_t1.sl.v165, trip_k0_t1.sl.v167, trip_k0_t1.sl.v168, trip_k0_t1.sl.v169,
    trip_k0_t1.sl.v170, trip_k0_t1.sl.v171, trip_k0_t1.sl.v172, trip_k0_t1.sl.v173, trip_k0_t1.sl.v174, trip_k0_t1.sl.v175, trip_k0_t1.sl.v176,
    trip_k0_t1.sl.v177, trip_k0_t1.sl.v178, trip_k0_t1.sl.v179, trip_k0_t1.sl.v180, trip_k0_t1.sl.v181, trip_k0_t1.sl.v182, trip_k0_t1.sl.v183,
    trip_k0_t1.sl.v184, trip_k0_t1.sl.v185, trip_k0_t1.sl.v186, trip_k0_t1.sl.v187, trip_k0_t1.sl.v188, trip_k0_t1.sl.v189, trip_k0_t1.sl.v190,
    trip_k0_t1.sl.v191, trip_k0_t1.sl.v192, trip_k0_t1.sl.v193, trip_k0_t1.sl.v194, trip_k0_t1.sl.v195, trip_k0_t1.sl.v196, trip_k0_t1.sl.v197,
    trip_k0_t1.sl.v198, trip_k0_t1.sl.v199, trip_k0_t1.sl.v200, trip_k0_t1.sl.v201, trip_k0_t1.sl.v202, trip_k0_t1.sl.v203, trip_k0_t1.sl.v204,
    trip_k0_t1.sl.v205, trip_k0_t1.sl.v206, trip_k0_t1.sl.v207, trip_k0_t1.sl.v208, trip_k0_t1.sl.v209, trip_k0_t1.sl.v210, trip_k0_t1.sl.v211,
    trip_k0_t1.sl.v212, trip_k0_t1.sl.v214, trip_k0_t1.sl.v215, trip_k0_t1.sl.v216, trip_k0_t1.sl.v217, trip_k0_t1.sl.v218, trip_k0_t1.sl.v221,
    trip_k0_t1.sl.v222, trip_k0_t1.sl.v223, trip_k0_t1.sl.v224, trip_k0_t1.sl.v225, trip_k0_t1.sl.v228, trip_k0_t1.sl.v229, trip_k0_t1.sl.v230,
    trip_k0_t1.sl.v231, trip_k0_t1.sl.v232, trip_k0_t1.sl.v235, trip_k0_t1.sl.v236, trip_k0_t1.sl.v237, trip_k0_t1.sl.v238, trip_k0_t1.sl.v239,
    trip_k0_t1.sl.v242, trip_k0_t1.sl.v245, trip_k0_t1.sl.v246, trip_k0_t1.sl.v247, trip_k0_t1.sl.v248, trip_k0_t1.sl.v249, trip_k0_t1.sl.v250,
    trip_k0_t1.sl.v251, trip_k0_t1.sl.v252, trip_k0_t1.sl.v253, trip_k0_t1.sl.v255, trip_k0_t1.sl.v256, trip_k0_t1.sl.v258, trip_k0_t1.sl.v261,
    trip_k0_t1.sl.v264, trip_k0_t1.sl.v268, trip_k0_t1.sl.v271, trip_k0_t1.sl.v274, trip_k0_t1.sl.v275, trip_k0_t1.sl.v276, trip_k0_t1.sl.v278,
    trip_k0_t1.sl.v281, trip_k0_t1.sl.v284, trip_k0_t1.sl.v288, trip_k0_t1.sl.v291, trip_k0_t1.sl.v294, trip_k0_t1.sl.v296, trip_k0_t1.sl.v297,
    trip_k0_t1.sl.v298, trip_k0_t1.sl.v299, trip_k0_t1.sl.v300, trip_k0_t1.sl.v301, trip_k0_t1.sl.v302, trip_k0_t1.sl.v303, trip_k0_t1.sl.v304,
    trip_k0_t1.sl.v305, trip_k0_t1.sl.v306, trip_k0_t1.sl.v307, trip_k0_t1.sl.v308, trip_k0_t1.sl.v309, trip_k0_t1.sl.v310, trip_k0_t1.sl.v311,
    trip_k0_t1.sl.v312, trip_k0_t1.sl.v313, trip_k0_t1.sl.v314, trip_k0_t1.sl.v315, trip_k0_t1.sl.v316, trip_k0_t1.sl.v317, trip_k0_t1.sl.v318,
    trip_k0_t1.sl.v319, trip_k0_t1.sl.v320, trip_k0_t1.sl.v321, trip_k0_t1.sl.v322, trip_k0_t1.sl.v323, trip_k0_t1.sl.v324, trip_k0_t1.sl.v325,
    trip_k0_t1.sl.v326, trip_k0_t1.sl.v327, trip_k0_t1.sl.v328, trip_k0_t1.sl.v329, trip_k0_t1.sl.v330, trip_k0_t1.sl.v331, trip_k0_t1.sl.v332,
    trip_k0_t1.sl.v333, trip_k0_t1.sl.v334, trip_k0_t1.sl.v335, trip_k0_t1.sl.v336, trip_k0_t1.sl.v337, trip_k0_t1.sl.v338, trip_k0_t1.sl.v339,
    trip_k0_t1.sl.v340, trip_k0_t1.sl.v341, trip_k0_t1.sl.v342, trip_k0_t1.sl.v343, trip_k0_t1.sl.v344, trip_k0_t1.sl.v345, trip_k0_t1.sl.v346,
    trip_k0_t1.sl.v347, trip_k0_t1.sl.v348, trip_k0_t1.sl.v350, trip_k0_t1.sl.v351, trip_k0_t1.sl.v352, trip_k0_t1.sl.v353, trip_k0_t1.sl.v354,
    trip_k0_t1.sl.v357, trip_k0_t1.sl.v358, trip_k0_t1.sl.v359, trip_k0_t1.sl.v360, trip_k0_t1.sl.v361, trip_k0_t1.sl.v364, trip_k0_t1.sl.v365,
    trip_k0_t1.sl.v366, trip_k0_t1.sl.v367, trip_k0_t1.sl.v368, trip_k0_t1.sl.v371, trip_k0_t1.sl.v372, trip_k0_t1.sl.v373, trip_k0_t1.sl.v374,
    trip_k0_t1.sl.v375,
    View.readCov, read_last, read_skip, s00, s01, s10, s11, m0, m1, a0, a1,
    k100, k110, k200, k210, k101, k111, k201, k211, v000, v001, v010, v011, v100, v101, v110, v111, q0, q1]
  all_goals rfl

/-- The whole loop, from scratch arrays that hold tile 0. -/
theorem held_loop (g7 : BufTy.Contents (Elt F) arg7.view.ty) (g8 : BufTy.Contents (Elt F) arg8.view.ty) (g9 : BufTy.Contents (Elt F) arg9.view.ty)
    (init : BitVec 32)
    (H : Held (arg3.view.read (Elt F) f3) (arg4.view.read (Elt F) f4) (arg5.view.read (Elt F) f5) arg7 arg8 arg9 0 g7 g8 g9)
    (n : ℕ) (hn : n ≤ (k0_t1_loop i).trips) :
    Held (arg3.view.read (Elt F) f3) (arg4.view.read (Elt F) f4) (arg5.view.read (Elt F) f5) arg7 arg8 arg9 (2 * n)
      (arg7.view.writes (Elt F) g7 (st_k0_t1 (F := F) 𝒱 c bd i arg3 harg3 arg4 harg4 arg5 harg5 arg6 harg6 arg7 harg7 arg8 harg8 arg9 harg9 w2 w52 w53 f3 f4 f5 g7 g8 g9 init n).2.1)
      (arg8.view.writes (Elt F) g8 (st_k0_t1 (F := F) 𝒱 c bd i arg3 harg3 arg4 harg4 arg5 harg5 arg6 harg6 arg7 harg7 arg8 harg8 arg9 harg9 w2 w52 w53 f3 f4 f5 g7 g8 g9 init n).2.2.1)
      (arg9.view.writes (Elt F) g9 (st_k0_t1 (F := F) 𝒱 c bd i arg3 harg3 arg4 harg4 arg5 harg5 arg6 harg6 arg7 harg7 arg8 harg8 arg9 harg9 w2 w52 w53 f3 f4 f5 g7 g8 g9 init n).2.2.2) := by
  induction n with
  | zero => exact H
  | succ n ih =>
    rw [st_k0_t1_succ 𝒱 c bd i arg3 harg3 arg4 harg4 arg5 harg5 arg6 harg6 arg7 harg7 arg8 harg8 arg9 harg9 w2 w52 w53 f3 f4 f5 g7 g8 g9 init ⟨n, hn⟩]
    simp only [View.writes_append]
    exact held_trip 𝒱 c bd i arg3 harg3 arg4 harg4 arg5 harg5 arg6 harg6 arg7 harg7 arg8 harg8 arg9 harg9 w2 w52 w53 f3 f4 f5 ⟨n, hn⟩ _ _ _ _ (ih (Nat.le_of_succ_le hn))
end

/-- The loop runs once per pair of key tiles below the diagonal one. -/
theorem trips1 (i : grid0.Coords) : (k0_t1_loop i).trips = (i 2).val / 2 := by
  have h : ∀ n : Fin 16, (i 2).val = n.val → (k0_t1_loop i).trips = n.val / 2 := by
    intro n hi
    unfold k0_t1_loop
    rw [hi]
    clear hi
    revert n
    decide +kernel
  exact h ⟨(i 2).val, (i 2).isLt⟩ rfl

/-- The loop after it does not run: no pair is left over. -/
theorem trips2 (i : grid0.Coords) : (k0_t2_loop i).trips = 0 := Nat.le_zero.1 (k0_t2_abs i).2.1

/-- The kernel's first arm is taken at the odd query tiles. -/
theorem cond1_iff (i : grid0.Coords) : k0_cond1 i = 1#1 ↔ (i 2).val % 2 = 1 := by
  have h : ∀ n : Fin 16, (i 2).val = n.val → (k0_cond1 i = 1#1 ↔ n.val % 2 = 1) := by
    intro n hi
    unfold k0_cond1
    rw [hi]
    clear hi
    revert n
    decide +kernel
  exact h ⟨(i 2).val, (i 2).isLt⟩ rfl

/-- The block of results: each head's weighted sums over its sum of weights, the heads side by side. -/
def outOf (a0 a1 : Vec F S1x80x512 .f32) : Vec F S1x512x128 .f32 :=
  k0_pay4 (VecWindow.window a0 ![0, 0, 0] S1x64x512.size (by decide)) (VecWindow.window a0 ![0, 64, 0] S1x1x512.size (by decide))
    (VecWindow.window a1 ![0, 0, 0] S1x64x512.size (by decide)) (VecWindow.window a1 ![0, 64, 0] S1x1x512.size (by decide))

/-- What query tile `n` computes. -/
def outBlk (n : ℕ) (x3 : Vec F S1x512x256 .bf16) (x4 : Vec F S1x8192x256 .bf16) (x5 : Vec F S1x16x160x512 .bf16) : Vec F S1x512x128 .f32 :=
  outOf (aEnd x3 x4 x5 0 n) (aEnd x3 x4 x5 1 n)

end Cert.Proof.Fox

end
-- ==== Proof.Body.lean ====
/-
  The body of the idealised kernel at one grid point, run: its result block is `Fox.outBlk` of the blocks of its three inputs.
-/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Steps
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The second branch is taken exactly where the first is not. -/
theorem cond2_iff (i : grid0.Coords) : k0_cond2 i = 1#1 ↔ ¬ k0_cond1 i = 1#1 := by
  have h : ∀ n : Fin 16, ∀ j : grid0.Coords, (j 2).val = n.val → (k0_cond2 j = 1#1 ↔ ¬ k0_cond1 j = 1#1) := by
    intro n j hj
    unfold k0_cond2 k0_cond1
    rw [hj]
    clear hj
    revert n
    decide +kernel
  exact h ⟨(i 2).val, (i 2).isLt⟩ i rfl

/-- The lower key block that a loop's trip is handed and does not read. -/
def unread1 : FVec F S256x128 .bf16 := constant S256x128 .bf16 0x0000#16

/-- The query block that a loop's trip is handed and does not read. -/
def unread2 : Vec F S1x512x128 .bf16 := constant S1x512x128 .bf16 0x0000#16

/-- The loop over pairs of tiles by its generated invariant, at fixed values of the two blocks its trips do not read. -/
@[sl_loop] abbrev pairs (c : Dev nD) (E : Set ℕ) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole) (X3 : BufTy.Contents (Elt F) arg3.view.ty)
    (X4 : BufTy.Contents (Elt F) arg4.view.ty) (X5 : BufTy.Contents (Elt F) arg5.view.ty) (G7 : BufTy.Contents (Elt F) arg7.view.ty)
    (G8 : BufTy.Contents (Elt F) arg8.view.ty) (G9 : BufTy.Contents (Elt F) arg9.view.ty) :=
  loopInv_k0_t1 (F := F) Variants.none c none E i arg3 harg3 arg4 harg4 arg5 harg5 arg6 harg6 arg7 harg7 arg8 harg8 arg9 harg9
    0#32 unread1 unread2 X3 X4 X5 G7 G8 G9 0#32

/-- The loop over a left-over tile, which no grid point has, by its generated invariant. -/
@[sl_loop] abbrev rest (c : Dev nD) (E : Set ℕ) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole) (v80 : BitVec 32) (X3 : BufTy.Contents (Elt F) arg3.view.ty)
    (X4 : BufTy.Contents (Elt F) arg4.view.ty) (X5 : BufTy.Contents (Elt F) arg5.view.ty) (G7 : BufTy.Contents (Elt F) arg7.view.ty)
    (G8 : BufTy.Contents (Elt F) arg8.view.ty) (G9 : BufTy.Contents (Elt F) arg9.view.ty) (init : BitVec 32) :=
  loopInv_k0_t2 (F := F) Variants.none c none E i arg3 harg3 arg4 harg4 arg5 harg5 arg6 harg6 arg7 harg7 arg8 harg8 arg9 harg9
    0#32 unread1 unread2 v80 X3 X4 X5 G7 G8 G9 init

/-! ## The offsets of the loads outside the loop -/

theorem off25 (i : grid0.Coords) (t : ℕ) (hn : (i 2).val = 2 * t + 1) :
    k0_off25 i = ![0, (2 * t) % 16, 80 * (0 : Fin 2).val, 256 * (0 : Fin 2).val] := by
  have h : ∀ n : Fin 16, (i 2).val = n.val → n.val % 2 = 1 → k0_off25 i = ![0, (n.val - 1) % 16, 80 * (0 : Fin 2).val, 256 * (0 : Fin 2).val] := by
    intro n hi
    unfold k0_off25
    rw [hi]
    clear hi
    revert n
    decide +kernel
  rw [h ⟨(i 2).val, (i 2).isLt⟩ rfl (by show (i 2).val % 2 = _; omega), hn]; rfl

theorem off26 (i : grid0.Coords) (t : ℕ) (hn : (i 2).val = 2 * t + 1) :
    k0_off26 i = ![0, (2 * t) % 16, 80 * (1 : Fin 2).val, 256 * (0 : Fin 2).val] := by
  have h : ∀ n : Fin 16, (i 2).val = n.val → n.val % 2 = 1 → k0_off26 i = ![0, (n.val - 1) % 16, 80 * (1 : Fin 2).val, 256 * (0 : Fin 2).val] := by
    intro n hi
    unfold k0_off26
    rw [hi]
    clear hi
    revert n
    decide +kernel
  rw [h ⟨(i 2).val, (i 2).isLt⟩ rfl (by show (i 2).val % 2 = _; omega), hn]; rfl

theorem off27 (i : grid0.Coords) (t : ℕ) (hn : (i 2).val = 2 * t + 1) :
    k0_off27 i = ![0, (2 * t) % 16, 80 * (0 : Fin 2).val, 256 * (1 : Fin 2).val] := by
  have h : ∀ n : Fin 16, (i 2).val = n.val → n.val % 2 = 1 → k0_off27 i = ![0, (n.val - 1) % 16, 80 * (0 : Fin 2).val, 256 * (1 : Fin 2).val] := by
    intro n hi
    unfold k0_off27
    rw [hi]
    clear hi
    revert n
    decide +kernel
  rw [h ⟨(i 2).val, (i 2).isLt⟩ rfl (by show (i 2).val % 2 = _; omega), hn]; rfl

theorem off28 (i : grid0.Coords) (t : ℕ) (hn : (i 2).val = 2 * t + 1) :
    k0_off28 i = ![0, (2 * t) % 16, 80 * (1 : Fin 2).val, 256 * (1 : Fin 2).val] := by
  have h : ∀ n : Fin 16, (i 2).val = n.val → n.val % 2 = 1 → k0_off28 i = ![0, (n.val - 1) % 16, 80 * (1 : Fin 2).val, 256 * (1 : Fin 2).val] := by
    intro n hi
    unfold k0_off28
    rw [hi]
    clear hi
    revert n
    decide +kernel
  rw [h ⟨(i 2).val, (i 2).isLt⟩ rfl (by show (i 2).val % 2 = _; omega), hn]; rfl

theorem off29 (i : grid0.Coords) (t : ℕ) (hn : (i 2).val = 2 * t + 1) :
    k0_off29 i = ![0, (2 * t + 1) % 16, 80 * (0 : Fin 2).val, 256 * (0 : Fin 2).val] := by
  have h : ∀ n : Fin 16, (i 2).val = n.val → n.val % 2 = 1 → k0_off29 i = ![0, (n.val) % 16, 80 * (0 : Fin 2).val, 256 * (0 : Fin 2).val] := by
    intro n hi
    unfold k0_off29
    rw [hi]
    clear hi
    revert n
    decide +kernel
  rw [h ⟨(i 2).val, (i 2).isLt⟩ rfl (by show (i 2).val % 2 = _; omega), hn]

theorem off30 (i : grid0.Coords) (t : ℕ) (hn : (i 2).val = 2 * t + 1) :
    k0_off30 i = ![0, (2 * t + 1) % 16, 80 * (1 : Fin 2).val, 256 * (0 : Fin 2).val] := by
  have h : ∀ n : Fin 16, (i 2).val = n.val → n.val % 2 = 1 → k0_off30 i = ![0, (n.val) % 16, 80 * (1 : Fin 2).val, 256 * (0 : Fin 2).val] := by
    intro n hi
    unfold k0_off30
    rw [hi]
    clear hi
    revert n
    decide +kernel
  rw [h ⟨(i 2).val, (i 2).isLt⟩ rfl (by show (i 2).val % 2 = _; omega), hn]

theorem off31 (i : grid0.Coords) (t : ℕ) (hn : (i 2).val = 2 * t + 1) :
    k0_off31 i = ![0, (2 * t + 1) % 16, 80 * (0 : Fin 2).val, 256 * (1 : Fin 2).val] := by
  have h : ∀ n : Fin 16, (i 2).val = n.val → n.val % 2 = 1 → k0_off31 i = ![0, (n.val) % 16, 80 * (0 : Fin 2).val, 256 * (1 : Fin 2).val] := by
    intro n hi
    unfold k0_off31
    rw [hi]
    clear hi
    revert n
    decide +kernel
  rw [h ⟨(i 2).val, (i 2).isLt⟩ rfl (by show (i 2).val % 2 = _; omega), hn]

theorem off32 (i : grid0.Coords) (t : ℕ) (hn : (i 2).val = 2 * t + 1) :
    k0_off32 i = ![0, (2 * t + 1) % 16, 80 * (1 : Fin 2).val, 256 * (1 : Fin 2).val] := by
  have h : ∀ n : Fin 16, (i 2).val = n.val → n.val % 2 = 1 → k0_off32 i = ![0, (n.val) % 16, 80 * (1 : Fin 2).val, 256 * (1 : Fin 2).val] := by
    intro n hi
    unfold k0_off32
    rw [hi]
    clear hi
    revert n
    decide +kernel
  rw [h ⟨(i 2).val, (i 2).isLt⟩ rfl (by show (i 2).val % 2 = _; omega), hn]

theorem off33 (i : grid0.Coords) (t : ℕ) (hn : (i 2).val = 2 * t) :
    k0_off33 i = ![0, (2 * t) % 16, 80 * (0 : Fin 2).val, 256 * (0 : Fin 2).val] := by
  have h : ∀ n : Fin 16, (i 2).val = n.val → n.val % 2 = 0 → k0_off33 i = ![0, (n.val) % 16, 80 * (0 : Fin 2).val, 256 * (0 : Fin 2).val] := by
    intro n hi
    unfold k0_off33
    rw [hi]
    clear hi
    revert n
    decide +kernel
  rw [h ⟨(i 2).val, (i 2).isLt⟩ rfl (by show (i 2).val % 2 = _; omega), hn]

theorem off34 (i : grid0.Coords) (t : ℕ) (hn : (i 2).val = 2 * t) :
    k0_off34 i = ![0, (2 * t) % 16, 80 * (1 : Fin 2).val, 256 * (0 : Fin 2).val] := by
  have h : ∀ n : Fin 16, (i 2).val = n.val → n.val % 2 = 0 → k0_off34 i = ![0, (n.val) % 16, 80 * (1 : Fin 2).val, 256 * (0 : Fin 2).val] := by
    intro n hi
    unfold k0_off34
    rw [hi]
    clear hi
    revert n
    decide +kernel
  rw [h ⟨(i 2).val, (i 2).isLt⟩ rfl (by show (i 2).val % 2 = _; omega), hn]

theorem off35 (i : grid0.Coords) (t : ℕ) (hn : (i 2).val = 2 * t) :
    k0_off35 i = ![0, (2 * t) % 16, 80 * (0 : Fin 2).val, 256 * (1 : Fin 2).val] := by
  have h : ∀ n : Fin 16, (i 2).val = n.val → n.val % 2 = 0 → k0_off35 i = ![0, (n.val) % 16, 80 * (0 : Fin 2).val, 256 * (1 : Fin 2).val] := by
    intro n hi
    unfold k0_off35
    rw [hi]
    clear hi
    revert n
    decide +kernel
  rw [h ⟨(i 2).val, (i 2).isLt⟩ rfl (by show (i 2).val % 2 = _; omega), hn]

theorem off36 (i : grid0.Coords) (t : ℕ) (hn : (i 2).val = 2 * t) :
    k0_off36 i = ![0, (2 * t) % 16, 80 * (1 : Fin 2).val, 256 * (1 : Fin 2).val] := by
  have h : ∀ n : Fin 16, (i 2).val = n.val → n.val % 2 = 0 → k0_off36 i = ![0, (n.val) % 16, 80 * (1 : Fin 2).val, 256 * (1 : Fin 2).val] := by
    intro n hi
    unfold k0_off36
    rw [hi]
    clear hi
    revert n
    decide +kernel
  rw [h ⟨(i 2).val, (i 2).isLt⟩ rfl (by show (i 2).val % 2 = _; omega), hn]

theorem off23_0 (i : grid0.Coords) (t : ℕ) (hn : (i 2).val = 2 * t + 1) :
    k0_off23 i 0#32 = ![0, 512 * ((2 * t + 1) % 16) + 256 * (0 : Fin 2).val, 128 * (0 : Fin 2).val] := by
  have h : ∀ n : Fin 16, (i 2).val = n.val → k0_off23 i 0#32 = ![0, 512 * (n.val % 16) + 256 * (0 : Fin 2).val, 128 * (0 : Fin 2).val] := by
    intro n hi
    unfold k0_off23
    rw [hi]
    clear hi
    revert n
    decide +kernel
  rw [h ⟨(i 2).val, (i 2).isLt⟩ rfl, hn]

theorem off23_1 (i : grid0.Coords) (t : ℕ) (hn : (i 2).val = 2 * t + 1) :
    k0_off23 i 256#32 = ![0, 512 * ((2 * t + 1) % 16) + 256 * (1 : Fin 2).val, 128 * (0 : Fin 2).val] := by
  have h : ∀ n : Fin 16, (i 2).val = n.val → k0_off23 i 256#32 = ![0, 512 * (n.val % 16) + 256 * (1 : Fin 2).val, 128 * (0 : Fin 2).val] := by
    intro n hi
    unfold k0_off23
    rw [hi]
    clear hi
    revert n
    decide +kernel
  rw [h ⟨(i 2).val, (i 2).isLt⟩ rfl, hn]

theorem off24_0 (i : grid0.Coords) (t : ℕ) (hn : (i 2).val = 2 * t + 1) :
    k0_off24 i 0#32 = ![0, 512 * ((2 * t + 1) % 16) + 256 * (0 : Fin 2).val, 128 * (1 : Fin 2).val] := by
  have h : ∀ n : Fin 16, (i 2).val = n.val → k0_off24 i 0#32 = ![0, 512 * (n.val % 16) + 256 * (0 : Fin 2).val, 128 * (1 : Fin 2).val] := by
    intro n hi
    unfold k0_off24
    rw [hi]
    clear hi
    revert n
    decide +kernel
  rw [h ⟨(i 2).val, (i 2).isLt⟩ rfl, hn]

theorem off24_1 (i : grid0.Coords) (t : ℕ) (hn : (i 2).val = 2 * t + 1) :
    k0_off24 i 256#32 = ![0, 512 * ((2 * t + 1) % 16) + 256 * (1 : Fin 2).val, 128 * (1 : Fin 2).val] := by
  have h : ∀ n : Fin 16, (i 2).val = n.val → k0_off24 i 256#32 = ![0, 512 * (n.val % 16) + 256 * (1 : Fin 2).val, 128 * (1 : Fin 2).val] := by
    intro n hi
    unfold k0_off24
    rw [hi]
    clear hi
    revert n
    decide +kernel
  rw [h ⟨(i 2).val, (i 2).isLt⟩ rfl, hn]

/-! ## The scratch arrays at loop entry -/

section
variable (i : grid0.Coords)
    (arg3 : Memref sig .tc .vmem S1x512x256 .bf16) (arg4 : Memref sig .tc .vmem S1x8192x256 .bf16) (arg5 : Memref sig .tc .vmem S1x16x160x512 .bf16)
    (arg7 : Memref sig .tc .vmem S2x4x256x512 .f32) (arg8 : Memref sig .tc .vmem S2x1x512 .f32) (arg9 : Memref sig .tc .vmem S2x80x512 .f32)
    (x3 : Vec F S1x512x256 .bf16) (x4 : Vec F S1x8192x256 .bf16) (x5 : Vec F S1x16x160x512 .bf16)
    (f7 : BufTy.Contents (Elt F) arg7.view.ty) (f8 : BufTy.Contents (Elt F) arg8.view.ty) (f9 : BufTy.Contents (Elt F) arg9.view.ty)

/-- The first tile's scores in the first slot, the maxima at the mask, the sums at zero. -/
theorem held_init : Held x3 x4 x5 arg7 arg8 arg9 0
    (arg7.view.writes (Elt F) f7 [⟨Rect.unit (s := S2x4x256x512) ![0, 3, 0, 0] S1x1x256x512.size inb_S2x4x256x512_S1x1x256x512_0_3_0_0, sc x3 x4 0 1 1⟩,
      ⟨Rect.unit (s := S2x4x256x512) ![0, 2, 0, 0] S1x1x256x512.size inb_S2x4x256x512_S1x1x256x512_0_2_0_0, sc x3 x4 0 1 0⟩,
      ⟨Rect.unit (s := S2x4x256x512) ![0, 1, 0, 0] S1x1x256x512.size inb_S2x4x256x512_S1x1x256x512_0_1_0_0, sc x3 x4 0 0 1⟩,
      ⟨Rect.unit (s := S2x4x256x512) ![0, 0, 0, 0] S1x1x256x512.size inb_S2x4x256x512_S1x1x256x512_0_0_0_0, sc x3 x4 0 0 0⟩])
    (arg8.view.writes (Elt F) f8 [⟨Rect.unit (s := S2x1x512) ![1, 0, 0] S1x1x512.size inb_S2x1x512_S1x1x512_1_0_0, k0_pay197⟩,
      ⟨Rect.unit (s := S2x1x512) ![0, 0, 0] S1x1x512.size inb_S2x1x512_S1x1x512_0_0_0, k0_pay195⟩])
    (arg9.view.writes (Elt F) f9 [⟨Rect.unit (s := S2x80x512) ![1, 0, 0] S1x80x512.size inb_S2x80x512_S1x80x512_1_0_0, k0_pay198⟩,
      ⟨Rect.unit (s := S2x80x512) ![0, 0, 0] S1x80x512.size inb_S2x80x512_S1x80x512_0_0_0, k0_pay196⟩]) := by
  constructor
  all_goals simp (disch := decide) only [read_last, read_skip]
  all_goals rfl
end

section
variable (c : Dev nD) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (f3 : BufTy.Contents (Elt F) arg3.view.ty) (f4 : BufTy.Contents (Elt F) arg4.view.ty) (f5 : BufTy.Contents (Elt F) arg5.view.ty)

/-- The loop that does not run leaves no pieces. -/
theorem rest_none (v80 init : BitVec 32) (g7 : BufTy.Contents (Elt F) arg7.view.ty) (g8 : BufTy.Contents (Elt F) arg8.view.ty)
    (g9 : BufTy.Contents (Elt F) arg9.view.ty) :
    st_k0_t2 (F := F) Variants.none c none i arg3 harg3 arg4 harg4 arg5 harg5 arg6 harg6 arg7 harg7 arg8 harg8 arg9 harg9 0#32 unread1 unread2 v80 f3 f4 f5 g7 g8 g9 init 0 = (init, [], [], []) := rfl

/-- The first slot's pieces at loop entry: the first tile's scores. -/
abbrev init7 (x3 : Vec F S1x512x256 .bf16) (x4 : Vec F S1x8192x256 .bf16) : List (View.Piece (Elt F) S2x4x256x512 .f32) :=
  [⟨Rect.unit (s := S2x4x256x512) ![0, 3, 0, 0] S1x1x256x512.size inb_S2x4x256x512_S1x1x256x512_0_3_0_0, sc x3 x4 0 1 1⟩,
      ⟨Rect.unit (s := S2x4x256x512) ![0, 2, 0, 0] S1x1x256x512.size inb_S2x4x256x512_S1x1x256x512_0_2_0_0, sc x3 x4 0 1 0⟩,
      ⟨Rect.unit (s := S2x4x256x512) ![0, 1, 0, 0] S1x1x256x512.size inb_S2x4x256x512_S1x1x256x512_0_1_0_0, sc x3 x4 0 0 1⟩,
      ⟨Rect.unit (s := S2x4x256x512) ![0, 0, 0, 0] S1x1x256x512.size inb_S2x4x256x512_S1x1x256x512_0_0_0_0, sc x3 x4 0 0 0⟩]
/-- The maxima's pieces at loop entry, -/
abbrev init8 : List (View.Piece (Elt F) S2x1x512 .f32) :=
  [⟨Rect.unit (s := S2x1x512) ![1, 0, 0] S1x1x512.size inb_S2x1x512_S1x1x512_1_0_0, k0_pay197⟩,
      ⟨Rect.unit (s := S2x1x512) ![0, 0, 0] S1x1x512.size inb_S2x1x512_S1x1x512_0_0_0, k0_pay195⟩]
/-- and the sums'. -/
abbrev init9 : List (View.Piece (Elt F) S2x80x512 .f32) :=
  [⟨Rect.unit (s := S2x80x512) ![1, 0, 0] S1x80x512.size inb_S2x80x512_S1x80x512_1_0_0, k0_pay198⟩,
      ⟨Rect.unit (s := S2x80x512) ![0, 0, 0] S1x80x512.size inb_S2x80x512_S1x80x512_0_0_0, k0_pay196⟩]

/-- A block of the scores of the first tile as its run spells it, -/
theorem sc_fold (x3 : Vec F S1x512x256 .bf16) (x4 : Vec F S1x8192x256 .bf16) (j : ℕ) (sub h : Fin 2) :
    shapeCast S1x1x256x512 (matmul dot_S256x128_S512x128_S256x512_1_1_0_0_n_n none (shapeCast S256x128 (kblk x4 j sub h) shapeCasts_S1x256x128_S256x128)
      (shapeCast S512x128 (qblk x3 h) shapeCasts_S1x512x128_S512x128) (constant S256x512 .f32 0x00000000#32)) shapeCasts_S256x512_S1x1x256x512
      = sc x3 x4 j sub h := rfl
/-- and as the first block's does. -/
theorem sc_fold' (x3 : Vec F S1x512x256 .bf16) (x4 : Vec F S1x8192x256 .bf16) (j : ℕ) (sub h : Fin 2) :
    shapeCast S1x1x256x512 (k0_pay199 (kblk x4 j sub h) (qblk x3 h)) shapeCasts_S256x512_S1x1x256x512 = sc x3 x4 j sub h := rfl

variable (f : BufTy.Contents (Elt F) arg7.view.ty) (f7 : BufTy.Contents (Elt F) arg7.view.ty) (f8 : BufTy.Contents (Elt F) arg8.view.ty)
    (f9 : BufTy.Contents (Elt F) arg9.view.ty)

theorem loop_s00 : View.readAt (Elt F) arg7.view (Rect.unit (s := S2x4x256x512) ![0, 0, 0, 0] S1x1x256x512.size inb_S2x4x256x512_S1x1x256x512_0_0_0_0).toLoadRect
      (arg7.view.writes (Elt F) (arg7.view.writes (Elt F) f (init7 (arg3.view.read (Elt F) f3) (arg4.view.read (Elt F) f4))) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.1)
    = sc (arg3.view.read (Elt F) f3) (arg4.view.read (Elt F) f4) (2 * ((i 2).val / 2)) 0 0 :=
  by
  rw [← View.writes_append, View.readAt_writes_of_cover _ f _ _ (fun j => ⟨_, List.mem_append_right _ (List.mem_cons_of_mem _ (List.mem_cons_of_mem _ (List.mem_cons_of_mem _ List.mem_cons_self))), by exact LoadRect.idx_mem _ j⟩), ← View.readAt_writes_of_cover _ f7 _ _ (fun j => ⟨_, List.mem_append_right _ (List.mem_cons_of_mem _ (List.mem_cons_of_mem _ (List.mem_cons_of_mem _ List.mem_cons_self))), by exact LoadRect.idx_mem _ j⟩), View.writes_append]
  exact (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).s00

theorem loop_s01 : View.readAt (Elt F) arg7.view (Rect.unit (s := S2x4x256x512) ![0, 1, 0, 0] S1x1x256x512.size inb_S2x4x256x512_S1x1x256x512_0_1_0_0).toLoadRect
      (arg7.view.writes (Elt F) (arg7.view.writes (Elt F) f (init7 (arg3.view.read (Elt F) f3) (arg4.view.read (Elt F) f4))) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.1)
    = sc (arg3.view.read (Elt F) f3) (arg4.view.read (Elt F) f4) (2 * ((i 2).val / 2)) 0 1 :=
  by
  rw [← View.writes_append, View.readAt_writes_of_cover _ f _ _ (fun j => ⟨_, List.mem_append_right _ (List.mem_cons_of_mem _ (List.mem_cons_of_mem _ List.mem_cons_self)), by exact LoadRect.idx_mem _ j⟩), ← View.readAt_writes_of_cover _ f7 _ _ (fun j => ⟨_, List.mem_append_right _ (List.mem_cons_of_mem _ (List.mem_cons_of_mem _ List.mem_cons_self)), by exact LoadRect.idx_mem _ j⟩), View.writes_append]
  exact (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).s01

theorem loop_s10 : View.readAt (Elt F) arg7.view (Rect.unit (s := S2x4x256x512) ![0, 2, 0, 0] S1x1x256x512.size inb_S2x4x256x512_S1x1x256x512_0_2_0_0).toLoadRect
      (arg7.view.writes (Elt F) (arg7.view.writes (Elt F) f (init7 (arg3.view.read (Elt F) f3) (arg4.view.read (Elt F) f4))) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.1)
    = sc (arg3.view.read (Elt F) f3) (arg4.view.read (Elt F) f4) (2 * ((i 2).val / 2)) 1 0 :=
  by
  rw [← View.writes_append, View.readAt_writes_of_cover _ f _ _ (fun j => ⟨_, List.mem_append_right _ (List.mem_cons_of_mem _ List.mem_cons_self), by exact LoadRect.idx_mem _ j⟩), ← View.readAt_writes_of_cover _ f7 _ _ (fun j => ⟨_, List.mem_append_right _ (List.mem_cons_of_mem _ List.mem_cons_self), by exact LoadRect.idx_mem _ j⟩), View.writes_append]
  exact (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).s10

theorem loop_s11 : View.readAt (Elt F) arg7.view (Rect.unit (s := S2x4x256x512) ![0, 3, 0, 0] S1x1x256x512.size inb_S2x4x256x512_S1x1x256x512_0_3_0_0).toLoadRect
      (arg7.view.writes (Elt F) (arg7.view.writes (Elt F) f (init7 (arg3.view.read (Elt F) f3) (arg4.view.read (Elt F) f4))) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.1)
    = sc (arg3.view.read (Elt F) f3) (arg4.view.read (Elt F) f4) (2 * ((i 2).val / 2)) 1 1 :=
  by
  rw [← View.writes_append, View.readAt_writes_of_cover _ f _ _ (fun j => ⟨_, List.mem_append_right _ List.mem_cons_self, by exact LoadRect.idx_mem _ j⟩), ← View.readAt_writes_of_cover _ f7 _ _ (fun j => ⟨_, List.mem_append_right _ List.mem_cons_self, by exact LoadRect.idx_mem _ j⟩), View.writes_append]
  exact (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).s11

theorem loop_m0 : View.readAt (Elt F) arg8.view (Rect.unit (s := S2x1x512) ![0, 0, 0] S1x1x512.size inb_S2x1x512_S1x1x512_0_0_0).toLoadRect
      (arg8.view.writes (Elt F) (arg8.view.writes (Elt F) f8 init8) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.2.1)
    = mAt (arg3.view.read (Elt F) f3) (arg4.view.read (Elt F) f4) 0 (2 * ((i 2).val / 2)) :=
  (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).m0

theorem loop_m1 : View.readAt (Elt F) arg8.view (Rect.unit (s := S2x1x512) ![1, 0, 0] S1x1x512.size inb_S2x1x512_S1x1x512_1_0_0).toLoadRect
      (arg8.view.writes (Elt F) (arg8.view.writes (Elt F) f8 init8) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.2.1)
    = mAt (arg3.view.read (Elt F) f3) (arg4.view.read (Elt F) f4) 1 (2 * ((i 2).val / 2)) :=
  (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).m1

theorem loop_a0 : View.readAt (Elt F) arg9.view (Rect.unit (s := S2x80x512) ![0, 0, 0] S1x80x512.size inb_S2x80x512_S1x80x512_0_0_0).toLoadRect
      (arg9.view.writes (Elt F) (arg9.view.writes (Elt F) f9 init9) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.2.2)
    = aAt (arg3.view.read (Elt F) f3) (arg4.view.read (Elt F) f4) (arg5.view.read (Elt F) f5) 0 (2 * ((i 2).val / 2)) :=
  (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).a0

theorem loop_a1 : View.readAt (Elt F) arg9.view (Rect.unit (s := S2x80x512) ![1, 0, 0] S1x80x512.size inb_S2x80x512_S1x80x512_1_0_0).toLoadRect
      (arg9.view.writes (Elt F) (arg9.view.writes (Elt F) f9 init9) (st_k0_t1 (F := F) Variants.none c none i arg3 harg3 arg4 harg4 arg5 harg5 arg6 harg6 arg7 harg7 arg8 harg8 arg9 harg9 0#32 unread1 unread2 f3 f4 f5
        (arg7.view.writes (Elt F) f7 (init7 (arg3.view.read (Elt F) f3) (arg4.view.read (Elt F) f4))) (arg8.view.writes (Elt F) f8 init8) (arg9.view.writes (Elt F) f9 init9) 0#32 ((i 2).val / 2)).2.2.2)
    = aAt (arg3.view.read (Elt F) f3) (arg4.view.read (Elt F) f4) (arg5.view.read (Elt F) f5) 1 (2 * ((i 2).val / 2)) :=
  (held_loop Variants.none c none i arg3 harg3 arg4 harg4 arg5 harg5 arg6 harg6 arg7 harg7 arg8 harg8 arg9 harg9 0#32 unread1 unread2 f3 f4 f5 _ _ _ 0#32 (held_init arg7 arg8 arg9 _ _ _ f7 f8 f9) _ (Nat.le_of_eq (trips1 i).symm)).a1

end

/-- Reading a head's weighted sums back out of its scratch box, -/
theorem read_rows (v : View sig .tc .vmem S2x80x512 .f32) (f : v.ty.Contents (Elt F)) (h : ℕ) (inb : ∀ a, ![h, 0, 0] a + S1x80x512.size a ≤ S2x80x512.size a)
    (inb' : ∀ a, ![h, 0, 0] a + S1x64x512.size a ≤ S2x80x512.size a) (w : Vec F S1x80x512 .f32) (L : List (View.Piece (Elt F) S2x80x512 .f32)) :
    v.readAt (Elt F) (Rect.unit (s := S2x80x512) ![h, 0, 0] ![1, 64, 512] inb').toLoadRect (v.writes (Elt F) f (⟨Rect.unit ![h, 0, 0] ![1, 80, 512] inb, w⟩ :: L))
      = VecWindow.window w ![0, 0, 0] S1x64x512.size (by decide) := by
  refine (read_sub v f ![h, 0, 0] S1x80x512.size ![h, 0, 0] S1x64x512.size ![0, 0, 0] inb inb' (by decide) ?_ w L).trans ?_
  · intro a
    match a with
    | ⟨0, _⟩ => rfl
    | ⟨1, _⟩ => rfl
    | ⟨2, _⟩ => rfl
  · funext x
    exact congrArg w (funext fun a => Fin.ext (by show _ + (x a).val = _ + 1 * (x a).val; rw [Nat.one_mul]; rfl))

/-- and its sum of weights. -/
theorem read_den (v : View sig .tc .vmem S2x80x512 .f32) (f : v.ty.Contents (Elt F)) (h : ℕ) (inb : ∀ a, ![h, 0, 0] a + S1x80x512.size a ≤ S2x80x512.size a)
    (inb' : ∀ a, ![h, 64, 0] a + S1x1x512.size a ≤ S2x80x512.size a) (w : Vec F S1x80x512 .f32) (L : List (View.Piece (Elt F) S2x80x512 .f32)) :
    v.readAt (Elt F) (Rect.unit (s := S2x80x512) ![h, 64, 0] ![1, 1, 512] inb').toLoadRect (v.writes (Elt F) f (⟨Rect.unit ![h, 0, 0] ![1, 80, 512] inb, w⟩ :: L))
      = VecWindow.window w ![0, 64, 0] S1x1x512.size (by decide) := by
  refine (read_sub v f ![h, 0, 0] S1x80x512.size ![h, 64, 0] S1x1x512.size ![0, 64, 0] inb inb' (by decide) ?_ w L).trans ?_
  · intro a
    match a with
    | ⟨0, _⟩ => rfl
    | ⟨1, _⟩ => rfl
    | ⟨2, _⟩ => rfl
  · funext x
    exact congrArg w (funext fun a => Fin.ext (by show _ + (x a).val = _ + 1 * (x a).val; rw [Nat.one_mul]; rfl))

/-- The body at an odd query tile, run from any contents of the scratch arrays: what it stores in the result block. -/
@[irreducible] def runOdd (c : Dev nD) (i : grid0.Coords) (hi : (i 2).val % 2 = 1)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (f3 : BufTy.Contents (Elt F) arg3.view.ty) (f4 : BufTy.Contents (Elt F) arg4.view.ty) (f5 : BufTy.Contents (Elt F) arg5.view.ty)
    (f7 : BufTy.Contents (Elt F) arg7.view.ty) :
    { w : Vec F S1x512x128 .f32 // ∀ (E : Set ℕ) (f6 : BufTy.Contents (Elt F) arg6.view.ty) (f8 : BufTy.Contents (Elt F) arg8.view.ty)
      (f9 : BufTy.Contents (Elt F) arg9.view.ty) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} (arg6.view.writes (Elt F) f6 [⟨Rect.unit (s := S1x512x128) ![0, 0, 0] S1x512x128.size inb_S1x512x128_S1x512x128_0_0_0, w⟩]))
            ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g))) -∗ K ⟨⟩))
      ⊢ wp frame (wpE (defs₀ (F := F)) Variants.none c none) E
          (cc0_fox_prompt i arg3 harg3 arg4 harg4 arg5 harg5 arg6 harg6 arg7 harg7 arg8 harg8 arg9 harg9) K } := by
  have h1 : k0_cond1 i = 1#1 := (cond1_iff i).2 hi
  have h2 : ¬ k0_cond2 i = 1#1 := fun h => (cond2_iff i).1 h h1
  refine ⟨?_, fun E f6 f8 f9 K => ?run⟩
  case run =>
    simp only [cc0_fox_prompt_eq_skeleton]; unfold cc0_fox_prompt_skel
    iintro ⟨H3, H4, H5, H6, H7, H8, H9, Hk⟩
    sl_exec
    sl_step
    iapply Hk
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body at an even query tile, run from any contents of the scratch arrays: what it stores in the result block. -/
@[irreducible] def runEven (c : Dev nD) (i : grid0.Coords) (hi : (i 2).val % 2 = 0)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (f3 : BufTy.Contents (Elt F) arg3.view.ty) (f4 : BufTy.Contents (Elt F) arg4.view.ty) (f5 : BufTy.Contents (Elt F) arg5.view.ty)
    (f7 : BufTy.Contents (Elt F) arg7.view.ty) :
    { w : Vec F S1x512x128 .f32 // ∀ (E : Set ℕ) (f6 : BufTy.Contents (Elt F) arg6.view.ty) (f8 : BufTy.Contents (Elt F) arg8.view.ty)
      (f9 : BufTy.Contents (Elt F) arg9.view.ty) (K : PUnit → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} (arg6.view.writes (Elt F) f6 [⟨Rect.unit (s := S1x512x128) ![0, 0, 0] S1x512x128.size inb_S1x512x128_S1x512x128_0_0_0, w⟩]))
            ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g))) -∗ K ⟨⟩))
      ⊢ wp frame (wpE (defs₀ (F := F)) Variants.none c none) E
          (cc0_fox_prompt i arg3 harg3 arg4 harg4 arg5 harg5 arg6 harg6 arg7 harg7 arg8 harg8 arg9 harg9) K } := by
  have h1 : ¬ k0_cond1 i = 1#1 := fun h => by have := (cond1_iff i).1 h; omega
  have h2 : k0_cond2 i = 1#1 := (cond2_iff i).2 h1
  refine ⟨?_, fun E f6 f8 f9 K => ?run⟩
  case run =>
    simp only [cc0_fox_prompt_eq_skeleton]; unfold cc0_fox_prompt_skel
    iintro ⟨H3, H4, H5, H6, H7, H8, H9, Hk⟩
    sl_exec
    sl_step
    iapply Hk
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

end Cert.Proof.Fox

end
-- ==== Proof.BodyValue.lean ====
/-
  The result block of the two runs of the body as `Fox.outBlk`.
-/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Body
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option backward.isDefEq.respectTransparency.types false in
/-- That block by tiles. -/
theorem runOdd_val (c : Dev nD) (i : grid0.Coords) (hi : (i 2).val % 2 = 1)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (f3 : BufTy.Contents (Elt F) arg3.view.ty) (f4 : BufTy.Contents (Elt F) arg4.view.ty) (f5 : BufTy.Contents (Elt F) arg5.view.ty)
    (f7 : BufTy.Contents (Elt F) arg7.view.ty) :
    (runOdd c i hi arg3 harg3 arg4 harg4 arg5 harg5 arg6 harg6 arg7 harg7 arg8 harg8 arg9 harg9 f3 f4 f5 f7).1
      = outBlk (i 2).val (arg3.view.read (Elt F) f3) (arg4.view.read (Elt F) f4) (arg5.view.read (Elt F) f5) := by
  unfold runOdd
  dsimp only
  have hn : (i 2).val = 2 * ((i 2).val / 2) + 1 := by omega
  have q0 : ∀ inb, View.readAt (Elt F) arg3.view (Rect.unit (s := S1x512x256) ![0, 0, 0] ![1, 512, 128] inb).toLoadRect f3 = qblk (arg3.view.read (Elt F) f3) 0 := fun inb => View.readAt_unit _ f3 inb rfl (qinb 0)
  have k00 : ∀ inb, View.readAt (Elt F) arg4.view (Rect.unit (s := S1x8192x256) ![0, 0, 0] ![1, 256, 128] inb).toLoadRect f4 = kblk (arg4.view.read (Elt F) f4) (0) 0 0 := fun inb => View.readAt_unit _ f4 inb rfl (kinb (0) 0 0)
  have k10 : ∀ inb, View.readAt (Elt F) arg4.view (Rect.unit (s := S1x8192x256) ![0, 256, 0] ![1, 256, 128] inb).toLoadRect f4 = kblk (arg4.view.read (Elt F) f4) (0) 1 0 := fun inb => View.readAt_unit _ f4 inb rfl (kinb (0) 1 0)
  have q1 : ∀ inb, View.readAt (Elt F) arg3.view (Rect.unit (s := S1x512x256) ![0, 0, 128] ![1, 512, 128] inb).toLoadRect f3 = qblk (arg3.view.read (Elt F) f3) 1 := fun inb => View.readAt_unit _ f3 inb rfl (qinb 1)
  have k01 : ∀ inb, View.readAt (Elt F) arg4.view (Rect.unit (s := S1x8192x256) ![0, 0, 128] ![1, 256, 128] inb).toLoadRect f4 = kblk (arg4.view.read (Elt F) f4) (0) 0 1 := fun inb => View.readAt_unit _ f4 inb rfl (kinb (0) 0 1)
  have k11 : ∀ inb, View.readAt (Elt F) arg4.view (Rect.unit (s := S1x8192x256) ![0, 256, 128] ![1, 256, 128] inb).toLoadRect f4 = kblk (arg4.view.read (Elt F) f4) (0) 1 1 := fun inb => View.readAt_unit _ f4 inb rfl (kinb (0) 1 1)
  have d00 : ∀ inb, View.readAt (Elt F) arg4.view (Rect.unit (s := S1x8192x256) (k0_off23 i 0#32) ![1, 256, 128] inb).toLoadRect f4 = kblk (arg4.view.read (Elt F) f4) (2 * ((i 2).val / 2) + 1) 0 0 := fun inb => View.readAt_unit _ f4 inb (off23_0 i _ hn) (kinb (2 * ((i 2).val / 2) + 1) 0 0)
  have d10 : ∀ inb, View.readAt (Elt F) arg4.view (Rect.unit (s := S1x8192x256) (k0_off23 i 256#32) ![1, 256, 128] inb).toLoadRect f4 = kblk (arg4.view.read (Elt F) f4) (2 * ((i 2).val / 2) + 1) 1 0 := fun inb => View.readAt_unit _ f4 inb (off23_1 i _ hn) (kinb (2 * ((i 2).val / 2) + 1) 1 0)
  have d01 : ∀ inb, View.readAt (Elt F) arg4.view (Rect.unit (s := S1x8192x256) (k0_off24 i 0#32) ![1, 256, 128] inb).toLoadRect f4 = kblk (arg4.view.read (Elt F) f4) (2 * ((i 2).val / 2) + 1) 0 1 := fun inb => View.readAt_unit _ f4 inb (off24_0 i _ hn) (kinb (2 * ((i 2).val / 2) + 1) 0 1)
  have d11 : ∀ inb, View.readAt (Elt F) arg4.view (Rect.unit (s := S1x8192x256) (k0_off24 i 256#32) ![1, 256, 128] inb).toLoadRect f4 = kblk (arg4.view.read (Elt F) f4) (2 * ((i 2).val / 2) + 1) 1 1 := fun inb => View.readAt_unit _ f4 inb (off24_1 i _ hn) (kinb (2 * ((i 2).val / 2) + 1) 1 1)
  have v0 : ∀ inb, View.readAt (Elt F) arg5.view (Rect.unit (s := S1x16x160x512) (k0_off25 i) ![1, 1, 80, 256] inb).toLoadRect f5 = vblk (arg5.view.read (Elt F) f5) (2 * ((i 2).val / 2)) 0 0 := fun inb => View.readAt_unit _ f5 inb (off25 i _ hn) (vinb (2 * ((i 2).val / 2)) 0 0)
  have w0 : ∀ inb, View.readAt (Elt F) arg5.view (Rect.unit (s := S1x16x160x512) (k0_off29 i) ![1, 1, 80, 256] inb).toLoadRect f5 = vblk (arg5.view.read (Elt F) f5) (2 * ((i 2).val / 2) + 1) 0 0 := fun inb => View.readAt_unit _ f5 inb (off29 i _ hn) (vinb (2 * ((i 2).val / 2) + 1) 0 0)
  have v1 : ∀ inb, View.readAt (Elt F) arg5.view (Rect.unit (s := S1x16x160x512) (k0_off26 i) ![1, 1, 80, 256] inb).toLoadRect f5 = vblk (arg5.view.read (Elt F) f5) (2 * ((i 2).val / 2)) 0 1 := fun inb => View.readAt_unit _ f5 inb (off26 i _ hn) (vinb (2 * ((i 2).val / 2)) 0 1)
  have w1 : ∀ inb, View.readAt (Elt F) arg5.view (Rect.unit (s := S1x16x160x512) (k0_off30 i) ![1, 1, 80, 256] inb).toLoadRect f5 = vblk (arg5.view.read (Elt F) f5) (2 * ((i 2).val / 2) + 1) 0 1 := fun inb => View.readAt_unit _ f5 inb (off30 i _ hn) (vinb (2 * ((i 2).val / 2) + 1) 0 1)
  have v2 : ∀ inb, View.readAt (Elt F) arg5.view (Rect.unit (s := S1x16x160x512) (k0_off27 i) ![1, 1, 80, 256] inb).toLoadRect f5 = vblk (arg5.view.read (Elt F) f5) (2 * ((i 2).val / 2)) 1 0 := fun inb => View.readAt_unit _ f5 inb (off27 i _ hn) (vinb (2 * ((i 2).val / 2)) 1 0)
  have w2 : ∀ inb, View.readAt (Elt F) arg5.view (Rect.unit (s := S1x16x160x512) (k0_off31 i) ![1, 1, 80, 256] inb).toLoadRect f5 = vblk (arg5.view.read (Elt F) f5) (2 * ((i 2).val / 2) + 1) 1 0 := fun inb => View.readAt_unit _ f5 inb (off31 i _ hn) (vinb (2 * ((i 2).val / 2) + 1) 1 0)
  have v3 : ∀ inb, View.readAt (Elt F) arg5.view (Rect.unit (s := S1x16x160x512) (k0_off28 i) ![1, 1, 80, 256] inb).toLoadRect f5 = vblk (arg5.view.read (Elt F) f5) (2 * ((i 2).val / 2)) 1 1 := fun inb => View.readAt_unit _ f5 inb (off28 i _ hn) (vinb (2 * ((i 2).val / 2)) 1 1)
  have w3 : ∀ inb, View.readAt (Elt F) arg5.view (Rect.unit (s := S1x16x160x512) (k0_off32 i) ![1, 1, 80, 256] inb).toLoadRect f5 = vblk (arg5.view.read (Elt F) f5) (2 * ((i 2).val / 2) + 1) 1 1 := fun inb => View.readAt_unit _ f5 inb (off32 i _ hn) (vinb (2 * ((i 2).val / 2) + 1) 1 1)
  conv_rhs => rw [hn]

  simp (disch := decide) only [runOdd.sl.H7_1, runOdd.sl.H7_2, runOdd.sl.H7_3, runOdd.sl.H7_4, runOdd.sl.H8_1, runOdd.sl.H8_2, runOdd.sl.H8_2_1, runOdd.sl.H9_2, runOdd.sl.H9_2_1,
      runOdd.sl.H9_4, runOdd.sl.cst_147, runOdd.sl.cst_166, runOdd.sl.cst_29, runOdd.sl.cst_92, runOdd.sl.r, runOdd.sl.r_1, runOdd.sl.r_10, runOdd.sl.r_11,
      runOdd.sl.r_12, runOdd.sl.r_13, runOdd.sl.r_14, runOdd.sl.r_15, runOdd.sl.r_16, runOdd.sl.r_2, runOdd.sl.r_3, runOdd.sl.r_4, runOdd.sl.r_5,
      runOdd.sl.r_6, runOdd.sl.r_7, runOdd.sl.r_8, runOdd.sl.r_9, runOdd.sl.v0, runOdd.sl.v1, runOdd.sl.v101, runOdd.sl.v105, runOdd.sl.v107, runOdd.sl.v116,
      runOdd.sl.v118, runOdd.sl.v119, runOdd.sl.v121, runOdd.sl.v123, runOdd.sl.v124, runOdd.sl.v125, runOdd.sl.v126, runOdd.sl.v127, runOdd.sl.v131,
      runOdd.sl.v133, runOdd.sl.v134, runOdd.sl.v136, runOdd.sl.v137, runOdd.sl.v138, runOdd.sl.v139, runOdd.sl.v141, runOdd.sl.v144, runOdd.sl.v146,
      runOdd.sl.v147, runOdd.sl.v151, runOdd.sl.v154, runOdd.sl.v156, runOdd.sl.v157, runOdd.sl.v158, runOdd.sl.v159, runOdd.sl.v160, runOdd.sl.v161,
      runOdd.sl.v162, runOdd.sl.v163, runOdd.sl.v164, runOdd.sl.v165, runOdd.sl.v166, runOdd.sl.v167, runOdd.sl.v168, runOdd.sl.v169, runOdd.sl.v170,
      runOdd.sl.v171, runOdd.sl.v172, runOdd.sl.v173, runOdd.sl.v174, runOdd.sl.v175, runOdd.sl.v176, runOdd.sl.v177, runOdd.sl.v178, runOdd.sl.v179,
      runOdd.sl.v180, runOdd.sl.v181, runOdd.sl.v182, runOdd.sl.v183, runOdd.sl.v184, runOdd.sl.v185, runOdd.sl.v186, runOdd.sl.v187, runOdd.sl.v188,
      runOdd.sl.v189, runOdd.sl.v190, runOdd.sl.v191, runOdd.sl.v192, runOdd.sl.v193, runOdd.sl.v194, runOdd.sl.v195, runOdd.sl.v196, runOdd.sl.v197,
      runOdd.sl.v198, runOdd.sl.v199, runOdd.sl.v200, runOdd.sl.v201, runOdd.sl.v202, runOdd.sl.v203, runOdd.sl.v204, runOdd.sl.v205, runOdd.sl.v206,
      runOdd.sl.v207, runOdd.sl.v208, runOdd.sl.v209, runOdd.sl.v210, runOdd.sl.v211, runOdd.sl.v213, runOdd.sl.v214, runOdd.sl.v215, runOdd.sl.v216,
      runOdd.sl.v217, runOdd.sl.v220, runOdd.sl.v221, runOdd.sl.v222, runOdd.sl.v223, runOdd.sl.v224, runOdd.sl.v227, runOdd.sl.v228, runOdd.sl.v229,
      runOdd.sl.v230, runOdd.sl.v231, runOdd.sl.v234, runOdd.sl.v235, runOdd.sl.v236, runOdd.sl.v237, runOdd.sl.v238, runOdd.sl.v241, runOdd.sl.v244,
      runOdd.sl.v245, runOdd.sl.v246, runOdd.sl.v251, runOdd.sl.v253, runOdd.sl.v255, runOdd.sl.v257, runOdd.sl.v259, runOdd.sl.v27, runOdd.sl.v275,
      runOdd.sl.v28, runOdd.sl.v291, runOdd.sl.v307, runOdd.sl.v32, runOdd.sl.v322, runOdd.sl.v325, runOdd.sl.v326, runOdd.sl.v327, runOdd.sl.v328,
      runOdd.sl.v329, runOdd.sl.v332, runOdd.sl.v333, runOdd.sl.v334, runOdd.sl.v335, runOdd.sl.v336, runOdd.sl.v339, runOdd.sl.v34, runOdd.sl.v340,
      runOdd.sl.v341, runOdd.sl.v342, runOdd.sl.v343, runOdd.sl.v346, runOdd.sl.v347, runOdd.sl.v348, runOdd.sl.v349, runOdd.sl.v35, runOdd.sl.v350,
      runOdd.sl.v351, runOdd.sl.v352, runOdd.sl.v353, runOdd.sl.v354, runOdd.sl.v355, runOdd.sl.v356, runOdd.sl.v36, runOdd.sl.v37, runOdd.sl.v38,
      runOdd.sl.v42, runOdd.sl.v44, runOdd.sl.v45, runOdd.sl.v46, runOdd.sl.v47, runOdd.sl.v48, runOdd.sl.v52, runOdd.sl.v54, runOdd.sl.v55, runOdd.sl.v56,
      runOdd.sl.v57, runOdd.sl.v58, runOdd.sl.v59, runOdd.sl.v60, runOdd.sl.v61, runOdd.sl.v62, runOdd.sl.v63, runOdd.sl.v64, runOdd.sl.v70, runOdd.sl.v71,
      runOdd.sl.v72, runOdd.sl.v73, runOdd.sl.v74, runOdd.sl.v75, runOdd.sl.v76, runOdd.sl.v77, runOdd.sl.v78, runOdd.sl.v79, runOdd.sl.v80, runOdd.sl.v85,
      runOdd.sl.v86, runOdd.sl.v87, runOdd.sl.v89, runOdd.sl.v99,
      ↓trips1, ↓trips2, View.readCov, View.writes_append, rest_none, List.nil_append, read_last, read_skip, read_rows, read_den, sc_fold, sc_fold',
      loop_s00, loop_s01, loop_s10, loop_s11, loop_m0, loop_m1, loop_a0, loop_a1, q0, k00, k10, q1, k01, k11, d00, d10, d01, d11, v0, w0, v1, w1, v2, w2, v3, w3]
  rw [rest_none c i arg3 harg3 arg4 harg4 arg5 harg5 arg6 harg6 arg7 harg7 arg8 harg8 arg9 harg9 f3 f4 f5]
  simp (config := {index := false}) (disch := decide) only [View.writes_append, View.writes_nil, List.nil_append, read_last, read_skip, read_rows, read_den, sc_fold, sc_fold',
      loop_s00, loop_s01, loop_s10, loop_s11, loop_m0, loop_m1, loop_a0, loop_a1]
  rfl

set_option backward.isDefEq.respectTransparency.types false in
/-- That block by tiles. -/
theorem runEven_val (c : Dev nD) (i : grid0.Coords) (hi : (i 2).val % 2 = 0)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (f3 : BufTy.Contents (Elt F) arg3.view.ty) (f4 : BufTy.Contents (Elt F) arg4.view.ty) (f5 : BufTy.Contents (Elt F) arg5.view.ty)
    (f7 : BufTy.Contents (Elt F) arg7.view.ty) :
    (runEven c i hi arg3 harg3 arg4 harg4 arg5 harg5 arg6 harg6 arg7 harg7 arg8 harg8 arg9 harg9 f3 f4 f5 f7).1
      = outBlk (i 2).val (arg3.view.read (Elt F) f3) (arg4.view.read (Elt F) f4) (arg5.view.read (Elt F) f5) := by
  unfold runEven
  dsimp only
  have hn : (i 2).val = 2 * ((i 2).val / 2) := by omega
  have q0 : ∀ inb, View.readAt (Elt F) arg3.view (Rect.unit (s := S1x512x256) ![0, 0, 0] ![1, 512, 128] inb).toLoadRect f3 = qblk (arg3.view.read (Elt F) f3) 0 := fun inb => View.readAt_unit _ f3 inb rfl (qinb 0)
  have k00 : ∀ inb, View.readAt (Elt F) arg4.view (Rect.unit (s := S1x8192x256) ![0, 0, 0] ![1, 256, 128] inb).toLoadRect f4 = kblk (arg4.view.read (Elt F) f4) (0) 0 0 := fun inb => View.readAt_unit _ f4 inb rfl (kinb (0) 0 0)
  have k10 : ∀ inb, View.readAt (Elt F) arg4.view (Rect.unit (s := S1x8192x256) ![0, 256, 0] ![1, 256, 128] inb).toLoadRect f4 = kblk (arg4.view.read (Elt F) f4) (0) 1 0 := fun inb => View.readAt_unit _ f4 inb rfl (kinb (0) 1 0)
  have q1 : ∀ inb, View.readAt (Elt F) arg3.view (Rect.unit (s := S1x512x256) ![0, 0, 128] ![1, 512, 128] inb).toLoadRect f3 = qblk (arg3.view.read (Elt F) f3) 1 := fun inb => View.readAt_unit _ f3 inb rfl (qinb 1)
  have k01 : ∀ inb, View.readAt (Elt F) arg4.view (Rect.unit (s := S1x8192x256) ![0, 0, 128] ![1, 256, 128] inb).toLoadRect f4 = kblk (arg4.view.read (Elt F) f4) (0) 0 1 := fun inb => View.readAt_unit _ f4 inb rfl (kinb (0) 0 1)
  have k11 : ∀ inb, View.readAt (Elt F) arg4.view (Rect.unit (s := S1x8192x256) ![0, 256, 128] ![1, 256, 128] inb).toLoadRect f4 = kblk (arg4.view.read (Elt F) f4) (0) 1 1 := fun inb => View.readAt_unit _ f4 inb rfl (kinb (0) 1 1)
  have w0 : ∀ inb, View.readAt (Elt F) arg5.view (Rect.unit (s := S1x16x160x512) (k0_off33 i) ![1, 1, 80, 256] inb).toLoadRect f5 = vblk (arg5.view.read (Elt F) f5) (2 * ((i 2).val / 2)) 0 0 := fun inb => View.readAt_unit _ f5 inb (off33 i _ hn) (vinb (2 * ((i 2).val / 2)) 0 0)
  have w1 : ∀ inb, View.readAt (Elt F) arg5.view (Rect.unit (s := S1x16x160x512) (k0_off34 i) ![1, 1, 80, 256] inb).toLoadRect f5 = vblk (arg5.view.read (Elt F) f5) (2 * ((i 2).val / 2)) 0 1 := fun inb => View.readAt_unit _ f5 inb (off34 i _ hn) (vinb (2 * ((i 2).val / 2)) 0 1)
  have w2 : ∀ inb, View.readAt (Elt F) arg5.view (Rect.unit (s := S1x16x160x512) (k0_off35 i) ![1, 1, 80, 256] inb).toLoadRect f5 = vblk (arg5.view.read (Elt F) f5) (2 * ((i 2).val / 2)) 1 0 := fun inb => View.readAt_unit _ f5 inb (off35 i _ hn) (vinb (2 * ((i 2).val / 2)) 1 0)
  have w3 : ∀ inb, View.readAt (Elt F) arg5.view (Rect.unit (s := S1x16x160x512) (k0_off36 i) ![1, 1, 80, 256] inb).toLoadRect f5 = vblk (arg5.view.read (Elt F) f5) (2 * ((i 2).val / 2)) 1 1 := fun inb => View.readAt_unit _ f5 inb (off36 i _ hn) (vinb (2 * ((i 2).val / 2)) 1 1)
  conv_rhs => rw [hn]

  simp (disch := decide) only [runEven.sl.H8_1, runEven.sl.H8_2, runEven.sl.H9_2, runEven.sl.H9_2_1, runEven.sl.cst_129, runEven.sl.cst_29, runEven.sl.r, runEven.sl.r_1,
      runEven.sl.r_10, runEven.sl.r_11, runEven.sl.r_12, runEven.sl.r_13, runEven.sl.r_14, runEven.sl.r_15, runEven.sl.r_16, runEven.sl.r_17, runEven.sl.r_18,
      runEven.sl.r_19, runEven.sl.r_2, runEven.sl.r_3, runEven.sl.r_4, runEven.sl.r_5, runEven.sl.r_6, runEven.sl.r_7, runEven.sl.r_8, runEven.sl.r_9,
      runEven.sl.v0, runEven.sl.v1, runEven.sl.v101, runEven.sl.v105, runEven.sl.v107, runEven.sl.v116, runEven.sl.v118, runEven.sl.v120, runEven.sl.v122,
      runEven.sl.v124, runEven.sl.v140, runEven.sl.v156, runEven.sl.v172, runEven.sl.v193, runEven.sl.v194, runEven.sl.v197, runEven.sl.v198, runEven.sl.v199,
      runEven.sl.v200, runEven.sl.v201, runEven.sl.v204, runEven.sl.v205, runEven.sl.v206, runEven.sl.v207, runEven.sl.v208, runEven.sl.v211, runEven.sl.v212,
      runEven.sl.v213, runEven.sl.v214, runEven.sl.v215, runEven.sl.v216, runEven.sl.v217, runEven.sl.v218, runEven.sl.v219, runEven.sl.v220, runEven.sl.v221,
      runEven.sl.v222, runEven.sl.v223, runEven.sl.v224, runEven.sl.v27, runEven.sl.v28, runEven.sl.v32, runEven.sl.v34, runEven.sl.v35, runEven.sl.v36,
      runEven.sl.v37, runEven.sl.v38, runEven.sl.v42, runEven.sl.v44, runEven.sl.v45, runEven.sl.v46, runEven.sl.v47, runEven.sl.v48, runEven.sl.v52,
      runEven.sl.v54, runEven.sl.v55, runEven.sl.v56, runEven.sl.v57, runEven.sl.v58, runEven.sl.v59, runEven.sl.v60, runEven.sl.v61, runEven.sl.v62,
      runEven.sl.v63, runEven.sl.v64, runEven.sl.v70, runEven.sl.v71, runEven.sl.v72, runEven.sl.v73, runEven.sl.v74, runEven.sl.v75, runEven.sl.v76,
      runEven.sl.v77, runEven.sl.v78, runEven.sl.v79, runEven.sl.v80, runEven.sl.v85, runEven.sl.v86, runEven.sl.v87, runEven.sl.v89, runEven.sl.v99,
      ↓trips1, ↓trips2, View.readCov, View.writes_append, rest_none, List.nil_append, read_last, read_skip, read_rows, read_den, sc_fold, sc_fold',
      loop_s00, loop_s01, loop_s10, loop_s11, loop_m0, loop_m1, loop_a0, loop_a1, q0, k00, k10, q1, k01, k11, w0, w1, w2, w3]
  rw [rest_none c i arg3 harg3 arg4 harg4 arg5 harg5 arg6 harg6 arg7 harg7 arg8 harg8 arg9 harg9 f3 f4 f5]
  simp (config := {index := false}) (disch := decide) only [View.writes_append, View.writes_nil, List.nil_append, read_last, read_skip, read_rows, read_den, sc_fold, sc_fold',
      loop_s00, loop_s01, loop_s10, loop_s11, loop_m0, loop_m1, loop_a0, loop_a1]
  rfl

end Cert.Proof.Fox

end
-- ==== Proof.KernelRun.lean ====
/-
  The run of the idealised kernel: each grid point leaves `Fox.outBlk` of its three blocks in the result's block. From it the
  frame and the result array.
-/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.BodyValue
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body on whole memrefs: the inputs come back as they were, the result block holds `outBlk` of them. -/
theorem body_runs (c : Dev nD) (E : Set ℕ) (i : grid0.Coords)
    (arg3 : Memref sig .tc .vmem S1x512x256 .bf16) (harg3 : arg3.IsWhole) (arg4 : Memref sig .tc .vmem S1x8192x256 .bf16) (harg4 : arg4.IsWhole)
    (arg5 : Memref sig .tc .vmem S1x16x160x512 .bf16) (harg5 : arg5.IsWhole) (arg6 : Memref sig .tc .vmem S1x512x128 .f32) (harg6 : arg6.IsWhole)
    (arg7 : Memref sig .tc .vmem S2x4x256x512 .f32) (harg7 : arg7.IsWhole) (arg8 : Memref sig .tc .vmem S2x1x512 .f32) (harg8 : arg8.IsWhole)
    (arg9 : Memref sig .tc .vmem S2x80x512 .f32) (harg9 : arg9.IsWhole)
    (x3 : Vec F S1x512x256 .bf16) (x4 : Vec F S1x8192x256 .bf16) (x5 : Vec F S1x16x160x512 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (outBlk (i 2).val x3 x4 x5) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0_fox_prompt i arg3 harg3 arg4 harg4 arg5 harg5 arg6 harg6 arg7 harg7 arg8 harg8 arg9 harg9) K := by
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf3 hf4 hf5
  rcases Nat.mod_two_eq_zero_or_one (i 2).val with hi | hi
  · iapply ((runEven c i hi arg3 harg3 arg4 harg4 arg5 harg5 arg6 harg6 arg7 harg7 arg8 harg8 arg9 harg9 f3 f4 f5 f7).2 E f6 f8 f9 K)
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H3, H4, H5, H6, ⟨%g7, H7⟩, ⟨%g8, H8⟩, ⟨%g9, H9⟩⟩
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists _; isplitr; swap; · iexact H6
                    ipureintro; exact (View.read_writes_full _ f6 inb_S1x512x128_S1x512x128_0_0_0 _ []).trans (runEven_val c i hi arg3 harg3 arg4 harg4 arg5 harg5 arg6 harg6 arg7 harg7 arg8 harg8 arg9 harg9 f3 f4 f5 f7)
    isplitl [H7]; · iexists _; iexists _; isplitr; swap; · iexact H7
                    ipureintro; rfl
    isplitl [H8]; · iexists _; iexists _; isplitr; swap; · iexact H8
                    ipureintro; rfl
    iexists _; iexists _; isplitr; swap; · iexact H9
    ipureintro; rfl
  · iapply ((runOdd c i hi arg3 harg3 arg4 harg4 arg5 harg5 arg6 harg6 arg7 harg7 arg8 harg8 arg9 harg9 f3 f4 f5 f7).2 E f6 f8 f9 K)
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H3, H4, H5, H6, ⟨%g7, H7⟩, ⟨%g8, H8⟩, ⟨%g9, H9⟩⟩
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists _; isplitr; swap; · iexact H6
                    ipureintro; exact (View.read_writes_full _ f6 inb_S1x512x128_S1x512x128_0_0_0 _ []).trans (runOdd_val c i hi arg3 harg3 arg4 harg4 arg5 harg5 arg6 harg6 arg7 harg7 arg8 harg8 arg9 harg9 f3 f4 f5 f7)
    isplitl [H7]; · iexists _; iexists _; isplitr; swap; · iexact H7
                    ipureintro; rfl
    isplitl [H8]; · iexists _; iexists _; isplitr; swap; · iexact H8
                    ipureintro; rfl
    iexists _; iexists _; isplitr; swap; · iexact H9
    ipureintro; rfl

/-! ## The pipeline's proof data -/

/-- The arrays as the region finds them; each input's buffer at its block; the result's at the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (cfg0.grid.coords t 2).val (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = outBlk (cfg0.grid.coords t 2).val (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Each point's body, from the windows' buffers and the scratch to the same. -/
theorem body_obligation (c : Dev nD) :
    BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  simp only [← owns_whole (c : Thread nD τ)]
  iintro ⟨⟨⟨H7, H8, H9⟩, HΦ⟩, Ho, ⟨%d0, H0⟩, ⟨%d1, H1⟩, ⟨%d2, H2⟩, ⟨%d3, H3⟩⟩
  iapply (body_runs c Set.univ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, H3, H7, H8, H9⟩
  isplitl [HΦ H7 H8 H9]
  · isplitr [HΦ]
    · isplitl [H7]; · iexact H7
      isplitl [H8]; · iexact H8
      iexact H9
    · iexact HΦ
  isplitl [Ho]; · iexact Ho
  isplitl [H0]; · iexact H0
  isplitl [H1]; · iexact H1
  isplitl [H2]; · iexact H2
  iexact H3

/-! ## The run and the frame -/

-- `θ_run_frame`'s implicit arguments are found by unifying its conclusion with this one, which takes unfolding plain
-- definitions in a metavariable's type
set_option backward.isDefEq.respectTransparency.types false in
/-- Every execution of the program ends, with what the pipeline leaves and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame with the result array, at any values. -/
theorem run : θ_run defs (onTc (τ := τ) (main (F := F))) ⟨m, fun _ => 0, ρ⟩ (fun r => (∀ c : Dev nD,
      r.2.mem ((c.tc : Thread nD τ).loc main_v87) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ (h : _ ∧ _) => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.Fox

end
-- ==== Proof.Softmax.lean ====
/-
  The running softmax over the extended reals: the maximum and the sums kept block by block are those of all the keys taken in,
  and their quotient is the sum weighted by the softmax.
-/
module

public import Idealize.ShloMosaic.PureOps.Ideal.Laws

@[expose] public section

noncomputable section

namespace Cert.Proof.Softmax

open Idealize.ShloMosaic
open scoped BigOperators

/-! ## Reals among the extended reals -/

/-- An extended real that is a real. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩

/-- A sum of products with reals that are not negative, times such a real. -/
theorem mul_sum {ι : Type} (K : Finset ι) (a : ℝ) (ha : 0 ≤ a) (f : ι → EReal) : (a : EReal) * ∑ k ∈ K, f k = ∑ k ∈ K, (a : EReal) * f k := by
  classical
  induction K using Finset.induction_on with
  | empty => simp
  | insert x K hx ih =>
    rw [Finset.sum_insert hx, Finset.sum_insert hx, EReal.left_distrib_of_nonneg_of_ne_top (EReal.coe_nonneg.2 ha) (EReal.coe_ne_top a), ih]

/-! ## The powers of two -/

theorem exp2_nonneg_real (x : EReal) (hx : x ≠ ⊤) : ∃ r : ℝ, 0 ≤ r ∧ Ideal.exp2 x = (r : EReal) := by
  induction x using EReal.rec with
  | bot => exact ⟨0, le_refl _, rfl⟩
  | top => exact absurd rfl hx
  | coe r => exact ⟨(2 : ℝ) ^ r, Real.rpow_nonneg (by norm_num) r, rfl⟩

/-- Going from the maximum `a` to the larger maximum `b` rescales the powers over `a` to those over `b`. -/
theorem exp2_rescale {s a b : EReal} (h1 : s ≤ a) (h2 : a ≤ b) : Ideal.exp2 (a - b) * Ideal.exp2 (s - a) = Ideal.exp2 (s - b) := by
  induction s using EReal.rec with
  | bot => rw [show (⊥ : EReal) - a = ⊥ from EReal.bot_add (-a), show (⊥ : EReal) - b = ⊥ from EReal.bot_add (-b), Ideal.exp2_bot, mul_zero]
  | top =>
    obtain rfl := top_le_iff.1 h1
    obtain rfl := top_le_iff.1 h2
    show Ideal.exp2 ⊥ * Ideal.exp2 ⊥ = Ideal.exp2 ⊥
    rw [Ideal.exp2_bot, mul_zero]
  | coe s =>
    induction a using EReal.rec with
    | bot => exact absurd h1 (by simp)
    | top =>
      obtain rfl := top_le_iff.1 h2
      show Ideal.exp2 ⊥ * _ = Ideal.exp2 ⊥
      rw [Ideal.exp2_bot, zero_mul]
    | coe a =>
      induction b using EReal.rec with
      | bot => exact absurd h2 (by simp)
      | top =>
        show Ideal.exp2 ⊥ * _ = Ideal.exp2 ⊥
        rw [Ideal.exp2_bot, zero_mul]
      | coe b =>
        rw [← EReal.coe_sub, ← EReal.coe_sub, ← EReal.coe_sub, Ideal.exp2_coe, Ideal.exp2_coe, Ideal.exp2_coe, ← EReal.coe_mul]
        refine congrArg _ ?_
        show (2 : ℝ) ^ (a - b) * (2 : ℝ) ^ (s - a) = (2 : ℝ) ^ (s - b)
        rw [← Real.rpow_add (by norm_num)]
        congr 1
        ring

theorem sub_ne_top {a b : EReal} (h : a ≤ b) : a - b ≠ ⊤ := by
  induction b using EReal.rec with
  | bot => obtain rfl := le_bot_iff.1 h; exact bot_ne_top
  | top => rw [show a - (⊤ : EReal) = ⊥ from EReal.add_bot a]; exact bot_ne_top
  | coe b =>
    induction a using EReal.rec with
    | bot => exact bot_ne_top
    | top => exact absurd h (by simp)
    | coe a => rw [← EReal.coe_sub]; exact EReal.coe_ne_top _

/-! ## Blocks of keys -/

/-- The largest score among the first `n` keys, -/
def top (s : ℕ → EReal) (n : ℕ) : EReal := (Finset.range n).sup s
/-- and the values weighted by the powers over a maximum. -/
def mass (s v : ℕ → EReal) (n : ℕ) (M : EReal) : EReal := ∑ k ∈ Finset.range n, v k * Ideal.exp2 (s k - M)

theorem top_add (s : ℕ → EReal) (n : ℕ) : ∀ b : ℕ, top s (n + b) = max (top s n) ((Finset.range b).sup fun r => s (n + r))
  | 0 => by simp [top]
  | b + 1 => by
    have ih := top_add s n b
    unfold top at *
    rw [← Nat.add_assoc, Finset.range_add_one, Finset.sup_insert, ih, Finset.range_add_one, Finset.sup_insert]
    exact max_left_comm _ _ _

theorem le_top (s : ℕ → EReal) (n k : ℕ) (h : k < n) : s k ≤ top s n := Finset.le_sup (f := s) (Finset.mem_range.2 h)

theorem top_mono (s : ℕ → EReal) (n b : ℕ) : top s n ≤ top s (n + b) := by rw [top_add]; exact le_max_left _ _

/-- One block taken in: the sums so far rescaled, and the block's added, are the sums of the keys up to the block's end. -/
theorem mass_step (s v : ℕ → EReal) (n b : ℕ) :
    Ideal.exp2 (top s n - top s (n + b)) * mass s v n (top s n) + ∑ r ∈ Finset.range b, v (n + r) * Ideal.exp2 (s (n + r) - top s (n + b))
      = mass s v (n + b) (top s (n + b)) := by
  have hle := top_mono s n b
  obtain ⟨a, ha, ea⟩ := exp2_nonneg_real _ (sub_ne_top hle)
  unfold mass
  rw [Finset.sum_range_add, ea, mul_sum _ a ha]
  refine congrArg (· + _) (Finset.sum_congr rfl fun k hk => ?_)
  rw [mul_left_comm, ← ea, exp2_rescale (le_top s n k (Finset.mem_range.1 hk)) hle]

/-- Keys whose score is minus infinity change neither the maximum -/
theorem top_ext (s : ℕ → EReal) {n N : ℕ} (h : n ≤ N) (hs : ∀ k, n ≤ k → s k = ⊥) : top s N = top s n := by
  obtain ⟨b, rfl⟩ := Nat.exists_eq_add_of_le h
  rw [top_add]
  refine max_eq_left ?_
  refine Finset.sup_le fun r _ => ?_
  rw [hs _ (Nat.le_add_right n r)]
  exact bot_le

/-- nor the sums. -/
theorem mass_ext (s v : ℕ → EReal) {n N : ℕ} (h : n ≤ N) (hs : ∀ k, n ≤ k → s k = ⊥) (M : EReal) : mass s v N M = mass s v n M := by
  unfold mass
  obtain ⟨b, rfl⟩ := Nat.exists_eq_add_of_le h
  rw [Finset.sum_range_add]
  refine (congrArg _ (Finset.sum_eq_zero fun r _ => ?_)).trans (add_zero _)
  rw [hs _ (Nat.le_add_right n r), show (⊥ : EReal) - M = ⊥ from EReal.bot_add (-M), Ideal.exp2_bot, mul_zero]

/-! ## The quotient -/

/-- The factor between the exponents of `exp` and of `exp2`. -/
def lg : ℝ := 1 / Real.log 2

theorem lg_pos : 0 < lg := one_div_pos.2 (Real.log_pos (by norm_num))

theorem exp2_lg (x : EReal) : Ideal.exp2 ((lg : EReal) * x) = Ideal.exp x := by
  induction x using EReal.rec with
  | bot => rw [EReal.coe_mul_bot_of_pos lg_pos]; rfl
  | top => rw [EReal.coe_mul_top_of_pos lg_pos]; rfl
  | coe r =>
    rw [← EReal.coe_mul, Ideal.exp2_coe, Ideal.exp_coe]
    refine congrArg _ ?_
    show (2 : ℝ) ^ (lg * r) = Real.exp r
    rw [Real.rpow_def_of_pos (by norm_num)]
    congr 1
    unfold lg
    have : Real.log 2 ≠ 0 := (Real.log_pos (by norm_num)).ne'
    field_simp

theorem sup_lg {ι : Type} (K : Finset ι) (s : ι → EReal) : (K.sup fun k => (lg : EReal) * s k) = (lg : EReal) * K.sup s := by
  classical
  induction K using Finset.induction_on with
  | empty => simp [EReal.coe_mul_bot_of_pos lg_pos]
  | insert x K hx ih =>
    rw [Finset.sup_insert, Finset.sup_insert, ih]
    have mono : Monotone fun y : EReal => (lg : EReal) * y := fun y z h => mul_le_mul_of_nonneg_left h (EReal.coe_nonneg.2 lg_pos.le)
    exact (mono.map_max (a := s x) (b := K.sup s)).symm

/-- The scores' largest is a real if one of them is and none is plus infinity. -/
theorem top_real (S : ℕ → EReal) (N : ℕ) (hS : ∀ k, S k ≠ ⊤) {k0 : ℕ} (h0 : k0 < N) (hk : S k0 ≠ ⊥) : ∃ r : ℝ, top S N = (r : EReal) := by
  have hb : top S N ≠ ⊥ := fun h => hk (le_bot_iff.1 (h ▸ le_top S N k0 h0))
  have ht : top S N ≠ ⊤ := by
    have : top S N < ⊤ := (Finset.sup_lt_iff (show (⊥ : EReal) < ⊤ from bot_lt_top)).2 fun k _ => lt_top_iff_ne_top.2 (hS k)
    exact this.ne
  exact ⟨(top S N).toReal, (EReal.coe_toReal ht hb).symm⟩

/-- The quotient of the weighted sums by the sum of the weights, at scores in the exponents of `exp2`, is the sum weighted by the
softmax of the scores in the exponents of `exp`. -/
theorem quotient (S v : ℕ → EReal) (N : ℕ) (hS : ∀ k, S k ≠ ⊤) {k0 : ℕ} (h0 : k0 < N) (hk : S k0 ≠ ⊥) :
    Ideal.div (mass (fun k => (lg : EReal) * S k) v N (top (fun k => (lg : EReal) * S k) N))
        (mass (fun k => (lg : EReal) * S k) (fun _ => 1) N (top (fun k => (lg : EReal) * S k) N))
      = ∑ k ∈ Finset.range N, v k * Ideal.div (Ideal.exp (S k - top S N)) (∑ k ∈ Finset.range N, Ideal.exp (S k - top S N)) := by
  obtain ⟨M, hM⟩ := top_real S N hS h0 hk
  have hT : top (fun k => (lg : EReal) * S k) N = (lg : EReal) * (M : EReal) := by rw [← hM]; exact sup_lg _ S
  have he : ∀ k, Ideal.exp2 ((lg : EReal) * S k - (lg : EReal) * (M : EReal)) = Ideal.exp (S k - (M : EReal)) := fun k => by
    rw [← exp2_lg]
    refine congrArg _ ?_
    rw [sub_eq_add_neg, sub_eq_add_neg, ← mul_neg, EReal.left_distrib_of_nonneg_of_ne_top (EReal.coe_nonneg.2 lg_pos.le) (EReal.coe_ne_top _)]
  have hr : ∀ k, ∃ r : ℝ, 0 ≤ r ∧ Ideal.exp (S k - (M : EReal)) = (r : EReal) := fun k => by
    have := hS k
    cases h : S k using EReal.rec with
    | bot => exact ⟨0, le_refl _, rfl⟩
    | top => exact absurd h this
    | coe r => exact ⟨Real.exp (r - M), (Real.exp_pos _).le, by rw [← EReal.coe_sub, Ideal.exp_coe]⟩
  choose e he0 hee using hr
  have hpos : 0 < ∑ k ∈ Finset.range N, e k := by
    refine Finset.sum_pos' (fun k _ => he0 k) ⟨k0, Finset.mem_range.2 h0, ?_⟩
    have h1 := hee k0
    cases h : S k0 using EReal.rec with
    | bot => exact absurd h hk
    | top => exact absurd h (hS k0)
    | coe r =>
      rw [h, ← EReal.coe_sub, Ideal.exp_coe] at h1
      rw [← EReal.coe_eq_coe_iff.1 h1]
      exact Real.exp_pos _
  have hsum : ∑ k ∈ Finset.range N, (e k : EReal) = ((∑ k ∈ Finset.range N, e k : ℝ) : EReal) := by
    induction Finset.range N using Finset.induction_on with
    | empty => simp
    | insert x K hx ih => rw [Finset.sum_insert hx, Finset.sum_insert hx, ih, EReal.coe_add]
  unfold mass
  rw [hT, hM]
  simp only [he, hee, one_mul]
  rw [hsum, Ideal.div_coe hpos.ne', mul_comm, mul_sum _ _ (one_div_nonneg.2 hpos.le)]
  refine Finset.sum_congr rfl fun k _ => ?_
  rw [Ideal.div_coe hpos.ne', mul_comm, mul_assoc]

end Cert.Proof.Softmax

end
-- ==== Proof.StepsAt.lean ====
/-
  One grid point of the idealised kernel, number by number. Row `r` of head `h` keeps the largest score so far and the sums of
  the values, and of the ones, weighted by the powers of two over it; a block of 256 keys extends both (`half_step`), and with
  the diagonal tile masked the row's result is the quotient of the two sums over all the keys (`outBlk_apply`).
-/
module

public import proofs.«01_k».proof.Proof.Steps
public import proofs.«01_k».proof.Proof.Gen.KernelIdeal.Skeleton
public import proofs.«01_k».proof.Proof.Softmax
public import Idealize.ShloMosaic.Lib.Pointwise
public import Idealize.ShloMosaic.Lib.WordCmp

@[expose] public section

set_option maxRecDepth 16384

noncomputable section

namespace Cert.Proof.Fox

open Cert.KernelIdeal Cert.KernelIdeal.Gen
open Idealize.ShloMosaic Idealize.ShloMosaic.WordCmp
open Cert.Proof.Softmax (top mass)

/-! ## The steps read at an index -/

section
variable (r : Fin 512)

theorem ofBits_negInf : Ideal.ofBits .f32 0xFF800000#32 = ⊥ := by
  simp [Ideal.ofBits, Ideal.ieee]

theorem rowMax_apply (m : FVec Ideal S1x512 .f32) (s : FVec Ideal S256x512 .f32) (z : Fin 1) :
    rowMax (F := Ideal) m s (ix2 z r) = max (m (ix2 z r)) ((Finset.univ : Finset (Fin 256)).sup fun n => s (ix2 n r)) := by
  pointwise [rowMax]
  rw [show Ideal.ofBits .f32 4286578688#32 = ⊥ from ofBits_negInf]
  rfl

theorem prob_apply (m : FVec Ideal S1x512 .f32) (s : FVec Ideal S256x512 .f32) (n : Fin 256) :
    prob (F := Ideal) s m (ix2 n r) = Ideal.exp2 (s (ix2 n r) - m (ix2 0 r)) := by
  pointwise [prob]
  rfl

theorem rescale_apply (m m' : FVec Ideal S1x512 .f32) (z : Fin 1) :
    rescale (F := Ideal) m m' (ix2 z r) = Ideal.exp2 (m (ix2 z r) - m' (ix2 z r)) := by
  pointwise [rescale]
  rfl

theorem accum_apply (α : FVec Ideal S1x512 .f32) (a : FVec Ideal S80x512 .f32) (v : FVec Ideal S1x1x80x256 .bf16) (p : FVec Ideal S256x512 .bf16) (d : Fin 80) :
    accum (F := Ideal) α a v p (ix2 d r) = α (ix2 0 r) * a (ix2 d r) + ∑ n : Fin 256, v (ix4 0 0 d n) * p (ix2 n r) := by
  pointwise [accum]

theorem unM_apply (m : Vec Ideal S1x1x512 .f32) : unM (F := Ideal) m (ix2 0 r) = m (ix3 0 0 r) := by pointwise [unM]
theorem layM_apply (m : FVec Ideal S1x512 .f32) : layM (F := Ideal) m (ix3 0 0 r) = m (ix2 0 r) := by pointwise [layM]
theorem unA_apply (a : Vec Ideal S1x80x512 .f32) (d : Fin 80) : unA (F := Ideal) a (ix2 d r) = a (ix3 0 d r) := by pointwise [unA]
theorem layA_apply (a : FVec Ideal S80x512 .f32) (d : Fin 80) : layA (F := Ideal) a (ix3 0 d r) = a (ix2 d r) := by pointwise [layA]
theorem unS_apply (s : Vec Ideal S1x1x256x512 .f32) (n : Fin 256) : unS (F := Ideal) s (ix2 n r) = s (ix4 0 0 n r) := by pointwise [unS]
theorem score_apply (k : FVec Ideal S1x256x128 .bf16) (q : FVec Ideal S1x512x128 .bf16) (n : Fin 256) :
    score (F := Ideal) k q (ix4 0 0 n r) = ∑ d : Fin 128, k (ix3 0 n d) * q (ix3 0 r d) := by
  pointwise [score]

theorem mask_eq : (Named.named (F := Ideal) κ "mask" (φ := .f32) 0xF149F2CA#32 : EReal) = ⊥ := IdealRules.named_const.ideal_named_scalar _ _ _ _ rfl

theorem masked_apply (o : ℕ) (ho : o ≤ 256) (s : FVec Ideal S256x512 .f32) (n : Fin 256) :
    masked (F := Ideal) (BitVec.ofNat 32 o) s (ix2 n r) = if o + n.val ≤ r.val then s (ix2 n r) else ⊥ := by
  pointwise [masked]
  have hn := n.isLt
  have hr := r.isLt
  rw [show IntOp.addi (BitVec.ofNat 32 n.val) (BitVec.ofNat 32 o) = BitVec.ofNat 32 (o + n.val) from by
    rw [Nat.add_comm]; exact (BitVec.ofNat_add ..).symm]
  by_cases h : o + n.val ≤ r.val
  · rw [if_pos h, (cmpi_sle_ofNat_eq_one_iff (by omega) (by omega)).2 h]
    rfl
  · rw [if_neg h, (cmpi_sle_ofNat_eq_zero_iff (by omega) (by omega)).2 (by omega)]
    exact mask_eq

theorem outOf_apply0 (a0 a1 : Vec Ideal S1x80x512 .f32) (d : Fin 64) :
    outOf (F := Ideal) a0 a1 (ix3 0 r (⟨d.val, by have := d.isLt; omega⟩ : Fin 128))
      = Ideal.div (a0 (ix3 0 (⟨d.val, by have := d.isLt; omega⟩ : Fin 80) r)) (a0 (ix3 0 (64 : Fin 80) r)) := by
  unfold outOf k0_pay4
  pointwise [VecWindow.window]
  refine congrArg₂ Ideal.div (congrArg a0 ?_) (congrArg a0 ?_)
  · funext a
    apply Fin.ext
    match a with
    | ⟨0, _⟩ => rfl
    | ⟨1, _⟩ => show 0 + 1 * d.val = d.val; omega
    | ⟨2, _⟩ => show 0 + 1 * r.val = r.val; omega
  · funext a
    apply Fin.ext
    match a with
    | ⟨0, _⟩ => rfl
    | ⟨1, _⟩ => rfl
    | ⟨2, _⟩ => show 0 + 1 * r.val = r.val; omega
theorem outOf_apply1 (a0 a1 : Vec Ideal S1x80x512 .f32) (d : Fin 64) :
    outOf (F := Ideal) a0 a1 (ix3 0 r (⟨64 + d.val, by have := d.isLt; omega⟩ : Fin 128))
      = Ideal.div (a1 (ix3 0 (⟨d.val, by have := d.isLt; omega⟩ : Fin 80) r)) (a1 (ix3 0 (64 : Fin 80) r)) := by
  unfold outOf k0_pay4
  pointwise [VecWindow.window]
  refine congrArg₂ Ideal.div (congrArg a1 ?_) (congrArg a1 ?_)
  · funext a
    apply Fin.ext
    match a with
    | ⟨0, _⟩ => rfl
    | ⟨1, _⟩ => show 0 + 1 * d.val = d.val; omega
    | ⟨2, _⟩ => show 0 + 1 * r.val = r.val; omega
  · funext a
    apply Fin.ext
    match a with
    | ⟨0, _⟩ => rfl
    | ⟨1, _⟩ => rfl
    | ⟨2, _⟩ => show 0 + 1 * r.val = r.val; omega

/-! ## Blocks of keys -/

/-- A block of 256 keys after the first `n`: the maximum and the sums over `n + 256`. -/
theorem half_step (s v : ℕ → EReal) (n : ℕ) (M : FVec Ideal S1x512 .f32) (A : FVec Ideal S80x512 .f32) (S : FVec Ideal S256x512 .f32)
    (V : FVec Ideal S1x1x80x256 .bf16) (d : Fin 80)
    (hM : M (ix2 0 r) = top s n) (hS : ∀ i : Fin 256, S (ix2 i r) = s (n + i.val))
    (hA : A (ix2 d r) = mass s v n (top s n)) (hV : ∀ i : Fin 256, V (ix4 0 0 d i) = v (n + i.val)) :
    rowMax (F := Ideal) M S (ix2 0 r) = top s (n + 256)
      ∧ accum (F := Ideal) (rescale M (rowMax M S)) A V (prob S (rowMax M S)) (ix2 d r) = mass s v (n + 256) (top s (n + 256)) := by
  have h1 : rowMax (F := Ideal) M S (ix2 0 r) = top s (n + 256) := by
    rw [rowMax_apply, hM, Softmax.top_add]
    refine congrArg (max (top s n)) ?_
    rw [show (Finset.univ.sup fun i : Fin 256 => S (ix2 i r)) = Finset.univ.sup fun i : Fin 256 => s (n + i.val) from
      Finset.sup_congr rfl fun i _ => hS i]
    exact le_antisymm (Finset.sup_le fun i _ => Finset.le_sup (f := fun k => s (n + k)) (Finset.mem_range.2 i.isLt))
      (Finset.sup_le fun k hk => Finset.le_sup (f := fun i : Fin 256 => s (n + i.val)) (Finset.mem_univ (⟨k, Finset.mem_range.1 hk⟩ : Fin 256)))
  refine ⟨h1, ?_⟩
  rw [accum_apply, rescale_apply, hM, h1, hA, ← Softmax.mass_step, Finset.sum_range]
  refine congrArg₂ (fun x y : EReal => x + y) rfl (Finset.sum_congr rfl fun i _ => ?_)
  rw [prob_apply, h1, hS, hV]

/-- Two such blocks, as the kernel takes them. -/
theorem full_step (s v : ℕ → EReal) (n : ℕ) (M : FVec Ideal S1x512 .f32) (A : FVec Ideal S80x512 .f32) (S0 S1 : FVec Ideal S256x512 .f32)
    (V0 V1 : FVec Ideal S1x1x80x256 .bf16) (d : Fin 80)
    (hM : M (ix2 0 r) = top s n) (hS0 : ∀ i : Fin 256, S0 (ix2 i r) = s (n + i.val)) (hS1 : ∀ i : Fin 256, S1 (ix2 i r) = s (n + 256 + i.val))
    (hA : A (ix2 d r) = mass s v n (top s n)) (hV0 : ∀ i : Fin 256, V0 (ix4 0 0 d i) = v (n + i.val))
    (hV1 : ∀ i : Fin 256, V1 (ix4 0 0 d i) = v (n + 256 + i.val)) :
    newM (F := Ideal) M S0 S1 (ix2 0 r) = top s (n + 512)
      ∧ newA (F := Ideal) M A S0 S1 V0 V1 (ix2 d r) = mass s v (n + 512) (top s (n + 512)) := by
  have h := half_step r s v n M A S0 V0 d hM hS0 hA hV0
  exact half_step r s v (n + 256) _ _ S1 V1 d h.1 hS1 h.2 hV1

end

/-! ## One grid point -/

section
variable (x3 : FVec Ideal S1x512x256 .bf16) (x4 : FVec Ideal S1x8192x256 .bf16) (x5 : FVec Ideal S1x16x160x512 .bf16) (h : Fin 2) (r : Fin 512)

/-- Column `d` of head `h`'s half. -/
def lane (h : Fin 2) (d : Fin 128) : Fin 256 := ⟨128 * h.val + d.val, by have := h.isLt; have := d.isLt; omega⟩
/-- Row `d` of head `h`'s values. -/
def vrow (h : Fin 2) (d : Fin 80) : Fin 160 := ⟨80 * h.val + d.val, by have := h.isLt; have := d.isLt; omega⟩
/-- Key `n`. -/
def key (n : ℕ) : Fin 8192 := ⟨n % 8192, Nat.mod_lt _ (by decide)⟩

/-- The score of key `n`. -/
def row (n : ℕ) : EReal := ∑ d : Fin 128, x4 (ix3 0 (key n) (lane h d)) * x3 (ix3 0 r (lane h d))
/-- Value `d` of key `n`. -/
def val (d : Fin 80) (n : ℕ) : EReal := x5 (ix4 0 (⟨n / 512 % 16, Nat.mod_lt _ (by decide)⟩ : Fin 16) (vrow h d) (⟨n % 512, Nat.mod_lt _ (by decide)⟩ : Fin 512))
/-- The score of key `n` behind the causal mask, in tile `j`. -/
def seenRow (j n : ℕ) : EReal := if n ≤ 512 * j + r.val then row x3 x4 h r n else ⊥

theorem sc_apply (j : ℕ) (hj : j < 16) (sub : Fin 2) (n : Fin 256) :
    unS (F := Ideal) (sc x3 x4 j sub h) (ix2 n r) = row x3 x4 h r (512 * j + 256 * sub.val + n.val) := by
  have h1 := sub.isLt
  have h2 := n.isLt
  rw [unS_apply]
  unfold sc
  rw [score_apply]
  refine Finset.sum_congr rfl fun d _ => congrArg₂ (· * ·) (congrArg x4 ?_) (congrArg x3 ?_)
  · funext a
    apply Fin.ext
    match a with
    | ⟨0, _⟩ => rfl
    | ⟨1, _⟩ => show 512 * (j % 16) + 256 * sub.val + 1 * n.val = (512 * j + 256 * sub.val + n.val) % 8192; omega
    | ⟨2, _⟩ => show 128 * h.val + 1 * d.val = 128 * h.val + d.val; omega
  · funext a
    apply Fin.ext
    match a with
    | ⟨0, _⟩ => rfl
    | ⟨1, _⟩ => show 0 + 1 * r.val = r.val; omega
    | ⟨2, _⟩ => show 128 * h.val + 1 * d.val = 128 * h.val + d.val; omega

theorem vblk_apply (j : ℕ) (hj : j < 16) (sub : Fin 2) (d : Fin 80) (n : Fin 256) :
    vblk (F := Ideal) x5 j sub h (ix4 0 0 d n) = val x5 h d (512 * j + 256 * sub.val + n.val) := by
  have h1 := sub.isLt
  have h2 := n.isLt
  refine congrArg x5 ?_
  funext a
  apply Fin.ext
  match a with
  | ⟨0, _⟩ => rfl
  | ⟨1, _⟩ => show j % 16 + 1 * 0 = (512 * j + 256 * sub.val + n.val) / 512 % 16; omega
  | ⟨2, _⟩ => show 80 * h.val + 1 * d.val = 80 * h.val + d.val; omega
  | ⟨3, _⟩ => show 256 * sub.val + 1 * n.val = (512 * j + 256 * sub.val + n.val) % 512; omega

/-- The maximum and the sums before tile `j`, of any scores that agree with the kernel's up to there. -/
theorem at_eq (s : ℕ → EReal) (d : Fin 80) : ∀ j : ℕ, j ≤ 16 → (∀ n, n < 512 * j → row x3 x4 h r n = s n) →
    mAt (F := Ideal) x3 x4 h j (ix3 0 0 r) = top s (512 * j)
      ∧ aAt (F := Ideal) x3 x4 x5 h j (ix3 0 d r) = mass s (val x5 h d) (512 * j) (top s (512 * j))
  | 0, _, _ => by
      refine ⟨?_, ?_⟩
      · unfold mAt
        rw [layM_apply]
        exact mask_eq
      · unfold aAt
        rw [layA_apply]
        show Ideal.ofBits .f32 0x00000000#32 = _
        rw [Ideal.ofBits_zero_f32]
        rfl
  | j + 1, hj, hs => by
      have ih := at_eq s d j (by omega) fun n hn => hs n (by omega)
      have step := full_step r s (val x5 h d) (512 * j) (unM (mAt x3 x4 h j)) (unA (aAt x3 x4 x5 h j)) (unS (sc x3 x4 j 0 h)) (unS (sc x3 x4 j 1 h))
        (vblk (F := Ideal) x5 j 0 h) (vblk (F := Ideal) x5 j 1 h) d (by rw [unM_apply]; exact ih.1)
        (fun i => by
          have hi := i.isLt
          rw [sc_apply x3 x4 h r j (by omega) 0 i, ← hs _ (by omega)]
          rfl)
        (fun i => by
          have hi := i.isLt
          rw [sc_apply x3 x4 h r j (by omega) 1 i, ← hs _ (by omega)]
          rfl)
        (by rw [unA_apply]; exact ih.2) (fun i => by exact vblk_apply x5 h j (by omega) 0 d i) (fun i => by exact vblk_apply x5 h j (by omega) 1 d i)
      refine ⟨?_, ?_⟩
      · rw [Nat.mul_succ, ← step.1]
        conv_lhs => unfold mAt
        rw [layM_apply]
      · rw [Nat.mul_succ, ← step.2]
        conv_lhs => unfold aAt
        rw [layA_apply]

/-- The sums after the diagonal tile are those over all the keys, masked. -/
theorem aEnd_apply (d : Fin 80) (j : ℕ) (hj : j < 16) :
    aEnd (F := Ideal) x3 x4 x5 h j (ix3 0 d r)
      = mass (seenRow x3 x4 h r j) (val x5 h d) 8192 (top (seenRow x3 x4 h r j) 8192) := by
  have hr := r.isLt
  have hout : ∀ n, 512 * j + 512 ≤ n → seenRow x3 x4 h r j n = ⊥ := fun n hn => if_neg (by omega)
  rw [Softmax.top_ext _ (show 512 * j + 512 ≤ 8192 by omega) hout, Softmax.mass_ext _ _ (show 512 * j + 512 ≤ 8192 by omega) hout]
  have ih := at_eq x3 x4 x5 h r (seenRow x3 x4 h r j) d j (by omega) fun n hn => (if_pos (by omega)).symm
  have step := full_step r (seenRow x3 x4 h r j) (val x5 h d) (512 * j) (unM (mAt x3 x4 h j)) (unA (aAt x3 x4 x5 h j))
    (masked (BitVec.ofNat 32 0) (unS (sc x3 x4 j 0 h))) (masked (BitVec.ofNat 32 256) (unS (sc x3 x4 j 1 h)))
    (vblk (F := Ideal) x5 j 0 h) (vblk (F := Ideal) x5 j 1 h) d (by rw [unM_apply]; exact ih.1)
    (fun i => by
      have hi := i.isLt
      rw [masked_apply r 0 (by omega), sc_apply x3 x4 h r j hj 0 i]
      exact if_congr (by omega) rfl rfl)
    (fun i => by
      have hi := i.isLt
      rw [masked_apply r 256 (by omega), sc_apply x3 x4 h r j hj 1 i]
      exact if_congr (by omega) rfl rfl)
    (by rw [unA_apply]; exact ih.2) (fun i => by exact vblk_apply x5 h j hj 0 d i) (fun i => by exact vblk_apply x5 h j hj 1 d i)
  rw [← step.2]
  unfold aEnd
  rw [layA_apply]

/-- One number of the block a grid point leaves: the quotient of the two sums. -/
theorem outBlk_apply (j : ℕ) (hj : j < 16) (d : Fin 64) :
    outBlk (F := Ideal) j x3 x4 x5 (ix3 0 r (⟨64 * h.val + d.val, by have := h.isLt; have := d.isLt; omega⟩ : Fin 128))
      = Ideal.div (mass (seenRow x3 x4 h r j) (val x5 h (⟨d.val, by have := d.isLt; omega⟩ : Fin 80)) 8192 (top (seenRow x3 x4 h r j) 8192))
          (mass (seenRow x3 x4 h r j) (val x5 h (64 : Fin 80)) 8192 (top (seenRow x3 x4 h r j) 8192)) := by
  rw [← aEnd_apply x3 x4 x5 h r _ j hj, ← aEnd_apply x3 x4 x5 h r _ j hj]
  unfold outBlk
  match h with
  | ⟨0, _⟩ =>
    refine (congrArg (outOf (F := Ideal) _ _) (congrArg (ix3 0 r) (Fin.ext ?_))).trans (outOf_apply0 r _ _ d)
    show 64 * 0 + d.val = d.val
    omega
  | ⟨1, _⟩ => exact outOf_apply1 r _ _ d

end

end Cert.Proof.Fox
end
-- ==== Proof.HostRun.lean ====
/-
  The arrays the idealised kernel's host hands the region, as functions of the arguments: the queries and the keys with the
  running sums of the gates beside them, and the values with a row of ones below each head.
-/
module

public import proofs.«01_k».proof.Proof.Gen.KernelIdeal.Frame
public import Idealize.ShloMosaic.Lib.StableHlo.RunRead

@[expose] public section

set_option maxRecDepth 16384

noncomputable section

namespace Cert.Proof.Fox

open Cert.KernelIdeal Cert.KernelIdeal.Gen
open Idealize.ShloMosaic Idealize.ShloMosaic.TcCoe Idealize.ShloMosaic.StableHlo

variable {F : FTy → Type} [FloatOps F] [Named F]

/-- The gates' running sums along the sequence. -/
def cumK (g : Vec F S4x8192x8 .f32) : Vec F S4x8192x8 .f32 :=
  Host.reduceWindowAdd ![1, 8192, 1] ![1, 1, 1] ![0, 8191, 0] ![0, 0, 0] g (broadcastInDim S_ ![] bcast_S_S_ (constant S_ .f32 0x00000000#32)) reduceWindows_S4x8192x8_S4x8192x8_w1s1p0_0_w8192s1p8191_0_w1s1p0_0 h_S_

/-- The reciprocal of the natural logarithm of two. -/
def rln2 : Vec F S_ .f32 := Host.divf (constant S_ .f32 0x3F800000#32) (Host.log (constant S_ .f32 0x40000000#32))

/-- The running sums in units of the logarithm of two. -/
def gates (g : Vec F S4x8192x8 .f32) : Vec F S4x8192x8 .f32 := mulf (cumK g) (broadcastInDim S4x8192x8 ![] bcast_S_S4x8192x8 rln2)

/-- The part of a number the short format holds, -/
def part (x : Vec F S4x8192x8 .f32) : Vec F S4x8192x8 .f32 := extf .f32 (truncf .bf16 x bitsLt_bf16_f32) bitsLt_bf16_f32
/-- and what is left of it. -/
def left (x : Vec F S4x8192x8 .f32) : Vec F S4x8192x8 .f32 := subf x (part x)

/-- The columns that hold a head's own numbers; the other head of its pair leaves its half free. -/
def own : IVec S4x8192x1024 1 :=
  cmpi .eq (Host.shrsi (andi (iotaInDim S4x8192x1024 32 2) (broadcastInDim S4x8192x1024 ![] bcast_S_S4x8192x1024 (constantI S_ 32 127#32)))
      (broadcastInDim S4x8192x1024 ![] bcast_S_S4x8192x1024 (constantI S_ 32 6#32)))
    (andi (Host.shrsi (iotaInDim S4x8192x1024 32 2) (broadcastInDim S4x8192x1024 ![] bcast_S_S4x8192x1024 (constantI S_ 32 7#32)))
      (broadcastInDim S4x8192x1024 ![] bcast_S_S4x8192x1024 (constantI S_ 32 1#32)))

/-- Each pair of heads' columns, once for each head of the pair. -/
def twice (x : Vec F S4x8192x512 .f32) : Vec F S4x8192x1024 .f32 :=
  concatenate S4x8192x1024 2 [⟨S4x8192x128, extractStridedSlice S4x8192x128 ![0, 0, 0] x slices_S4x8192x512_S4x8192x128_0_0_0⟩,
    ⟨S4x8192x128, extractStridedSlice S4x8192x128 ![0, 0, 0] x slices_S4x8192x512_S4x8192x128_0_0_0⟩,
    ⟨S4x8192x128, extractStridedSlice S4x8192x128 ![0, 0, 128] x slices_S4x8192x512_S4x8192x128_0_0_128⟩,
    ⟨S4x8192x128, extractStridedSlice S4x8192x128 ![0, 0, 128] x slices_S4x8192x512_S4x8192x128_0_0_128⟩,
    ⟨S4x8192x128, extractStridedSlice S4x8192x128 ![0, 0, 256] x slices_S4x8192x512_S4x8192x128_0_0_256⟩,
    ⟨S4x8192x128, extractStridedSlice S4x8192x128 ![0, 0, 256] x slices_S4x8192x512_S4x8192x128_0_0_256⟩,
    ⟨S4x8192x128, extractStridedSlice S4x8192x128 ![0, 0, 384] x slices_S4x8192x512_S4x8192x128_0_0_384⟩,
    ⟨S4x8192x128, extractStridedSlice S4x8192x128 ![0, 0, 384] x slices_S4x8192x512_S4x8192x128_0_0_384⟩]
    concatenates_S4x8192x128_S4x8192x128_S4x8192x128_S4x8192x128_S4x8192x128_S4x8192x128_S4x8192x128_S4x8192x128_S4x8192x1024_d2

/-- A number of each head as a column. -/
def column (x : Vec F S4x8192x8 .f32) : Vec F S4x8192x8x1 .f32 := broadcastInDim S4x8192x8x1 ![0, 1, 2] bcast_S4x8192x8_S4x8192x8x1_0_1_2 x

/-- The same 64 columns in both halves of each head. -/
def halves (x : Vec F S4x8192x8x64 .f32) : Vec F S4x8192x1024 .f32 :=
  shapeCast S4x8192x1024 (concatenate S4x8192x8x128 3 [⟨S4x8192x8x64, x⟩, ⟨S4x8192x8x64, x⟩] concatenates_S4x8192x8x64_S4x8192x8x64_S4x8192x8x128_d3)
    shapeCasts_S4x8192x8x128_S4x8192x1024

/-- The gates' columns beside the queries, -/
def gatesQ (x y z : Vec F S4x8192x8 .f32) : Vec F S4x8192x8x64 .f32 :=
  concatenate S4x8192x8x64 3 [⟨S4x8192x8x1, column x⟩, ⟨S4x8192x8x1, column y⟩, ⟨S4x8192x8x1, column z⟩,
    ⟨S4x8192x8x3, broadcastInDim S4x8192x8x3 ![] bcast_S_S4x8192x8x3 (constant S_ .f32 0x3F800000#32)⟩,
    ⟨S4x8192x8x58, broadcastInDim S4x8192x8x58 ![] bcast_S_S4x8192x8x58 (constant S_ .f32 0x00000000#32)⟩]
    concatenates_S4x8192x8x1_S4x8192x8x1_S4x8192x8x1_S4x8192x8x3_S4x8192x8x58_S4x8192x8x64_d3
/-- and beside the keys. -/
def gatesK (x y z : Vec F S4x8192x8 .f32) : Vec F S4x8192x8x64 .f32 :=
  concatenate S4x8192x8x64 3 [⟨S4x8192x8x3, broadcastInDim S4x8192x8x3 ![] bcast_S_S4x8192x8x3 (constant S_ .f32 0x3F800000#32)⟩,
    ⟨S4x8192x8x1, Host.negf (column x)⟩, ⟨S4x8192x8x1, Host.negf (column y)⟩, ⟨S4x8192x8x1, Host.negf (column z)⟩,
    ⟨S4x8192x8x58, broadcastInDim S4x8192x8x58 ![] bcast_S_S4x8192x8x58 (constant S_ .f32 0x00000000#32)⟩]
    concatenates_S4x8192x8x3_S4x8192x8x1_S4x8192x8x1_S4x8192x8x1_S4x8192x8x58_S4x8192x8x64_d3

/-- The queries scaled by an eighth, in units of the logarithm of two. -/
def scaled (q : Vec F S4x8192x512 .f32) : Vec F S4x8192x512 .f32 :=
  mulf q (broadcastInDim S4x8192x512 ![] bcast_S_S4x8192x512 (mulf (constant S_ .f32 0x3E000000#32) rln2))

/-- The queries with the gates beside them, -/
def qaug (q : Vec F S4x8192x512 .f32) (x : Vec F S4x8192x8 .f32) : Vec F S4x8192x1024 .bf16 :=
  truncf .bf16 (select own (twice (scaled q)) (halves (gatesQ (part x) (part (left x)) (part (left (left x)))))) bitsLt_bf16_f32
/-- the keys with the gates beside them, -/
def kaug (k : Vec F S4x8192x512 .f32) (x : Vec F S4x8192x8 .f32) : Vec F S4x8192x1024 .bf16 :=
  truncf .bf16 (select own (twice k) (halves (gatesK (part x) (part (left x)) (part (left (left x)))))) bitsLt_bf16_f32

/-- A row of ones over rows of zeros. -/
def oneRow : Vec F S4x16x16x512 .bf16 :=
  truncf .bf16 (select (cmpi .eq (iotaInDim S4x16x16x512 32 2) (broadcastInDim S4x16x16x512 ![] bcast_S_S4x16x16x512 (constantI S_ 32 0#32)))
    (broadcastInDim S4x16x16x512 ![] bcast_S_S4x16x16x512 (constant S_ .f32 0x3F800000#32))
    (broadcastInDim S4x16x16x512 ![] bcast_S_S4x16x16x512 (constant S_ .f32 0x00000000#32))) bitsLt_bf16_f32

/-- The values by tiles of keys, transposed. -/
def turned (v : Vec F S4x8192x512 .f32) : Vec F S4x16x512x512 .bf16 :=
  truncf .bf16 (transpose S4x16x512x512 [0, 1, 3, 2] (shapeCast S4x16x512x512 v shapeCasts_S4x8192x512_S4x16x512x512) transposes_S4x16x512x512_S4x16x512x512_0_1_3_2) bitsLt_bf16_f32

/-- The blocks of 64 rows of one array, each before the same 16 rows of another, -/
abbrev blocks (x : Vec F S4x16x512x512 .bf16) (o : Vec F S4x16x16x512 .bf16) : List ((s : Shape) × (s.Idx → F .bf16)) :=
  [
    ⟨S4x16x64x512, extractStridedSlice S4x16x64x512 ![0, 0, 0, 0] x slices_S4x16x512x512_S4x16x64x512_0_0_0_0⟩, ⟨S4x16x16x512, o⟩,
    ⟨S4x16x64x512, extractStridedSlice S4x16x64x512 ![0, 0, 64, 0] x slices_S4x16x512x512_S4x16x64x512_0_0_64_0⟩, ⟨S4x16x16x512, o⟩,
    ⟨S4x16x64x512, extractStridedSlice S4x16x64x512 ![0, 0, 128, 0] x slices_S4x16x512x512_S4x16x64x512_0_0_128_0⟩, ⟨S4x16x16x512, o⟩,
    ⟨S4x16x64x512, extractStridedSlice S4x16x64x512 ![0, 0, 192, 0] x slices_S4x16x512x512_S4x16x64x512_0_0_192_0⟩, ⟨S4x16x16x512, o⟩,
    ⟨S4x16x64x512, extractStridedSlice S4x16x64x512 ![0, 0, 256, 0] x slices_S4x16x512x512_S4x16x64x512_0_0_256_0⟩, ⟨S4x16x16x512, o⟩,
    ⟨S4x16x64x512, extractStridedSlice S4x16x64x512 ![0, 0, 320, 0] x slices_S4x16x512x512_S4x16x64x512_0_0_320_0⟩, ⟨S4x16x16x512, o⟩,
    ⟨S4x16x64x512, extractStridedSlice S4x16x64x512 ![0, 0, 384, 0] x slices_S4x16x512x512_S4x16x64x512_0_0_384_0⟩, ⟨S4x16x16x512, o⟩,
    ⟨S4x16x64x512, extractStridedSlice S4x16x64x512 ![0, 0, 448, 0] x slices_S4x16x512x512_S4x16x64x512_0_0_448_0⟩, ⟨S4x16x16x512, o⟩]
/-- and the array they make. -/
def joined (x : Vec F S4x16x512x512 .bf16) (o : Vec F S4x16x16x512 .bf16) : Vec F S4x16x640x512 .bf16 :=
  concatenate S4x16x640x512 2 (blocks x o)
    concatenates_S4x16x64x512_S4x16x16x512_S4x16x64x512_S4x16x16x512_S4x16x64x512_S4x16x16x512_S4x16x64x512_S4x16x16x512_S4x16x64x512_S4x16x16x512_S4x16x64x512_S4x16x16x512_S4x16x64x512_S4x16x16x512_S4x16x64x512_S4x16x16x512_S4x16x640x512_d2

/-- The values, a row of ones below each head. -/
def vaug (v : Vec F S4x8192x512 .f32) : Vec F S4x16x640x512 .bf16 := joined (turned v) oneRow

/-! ## The host's operations, cut where an array is whole -/

/-- The gates' parts. -/
abbrev opsA : List (HloOp τ sig (Elt F)) := hostOps0_1.take 16
/-- The columns of a head's own numbers. -/
abbrev opsB : List (HloOp τ sig (Elt F)) := (hostOps0_1.drop 16).take 14
/-- The scaled queries, twice. -/
abbrev opsC : List (HloOp τ sig (Elt F)) := (hostOps0_1.drop 30).take 13
/-- The gates' columns beside the queries. -/
abbrev opsD : List (HloOp τ sig (Elt F)) := hostOps0_1.drop 43
/-- The keys, twice. -/
abbrev opsE : List (HloOp τ sig (Elt F)) := hostOps0_3.take 10
/-- The gates' columns beside the keys. -/
abbrev opsF : List (HloOp τ sig (Elt F)) := hostOps0_3.drop 10

variable (W : Valuation τ sig (Elt F))

theorem stage0 :
    after hostOps0 W (main_v0 : DevRef τ sig) = cumK (W (main_arg3 : DevRef τ sig))
    ∧ after hostOps0 W (main_arg0 : DevRef τ sig) = W (main_arg0 : DevRef τ sig)
    ∧ after hostOps0 W (main_arg1 : DevRef τ sig) = W (main_arg1 : DevRef τ sig)
    ∧ after hostOps0 W (main_arg2 : DevRef τ sig) = W (main_arg2 : DevRef τ sig) := by
  simp only [hostOps0]
  refine ⟨?_, ?_, ?_, ?_⟩
  all_goals after_results
  all_goals rfl

theorem stageA :
    after opsA W (main_v12 : DevRef τ sig) = part (mulf (W (main_v0 : DevRef τ sig)) (broadcastInDim S4x8192x8 ![] bcast_S_S4x8192x8 rln2))
    ∧ after opsA W (main_v13 : DevRef τ sig) = part (left (mulf (W (main_v0 : DevRef τ sig)) (broadcastInDim S4x8192x8 ![] bcast_S_S4x8192x8 rln2)))
    ∧ after opsA W (main_v14 : DevRef τ sig) = part (left (left (mulf (W (main_v0 : DevRef τ sig)) (broadcastInDim S4x8192x8 ![] bcast_S_S4x8192x8 rln2))))
    ∧ after opsA W (main_v2 : DevRef τ sig) = rln2
    ∧ after opsA W (main_arg0 : DevRef τ sig) = W (main_arg0 : DevRef τ sig)
    ∧ after opsA W (main_arg1 : DevRef τ sig) = W (main_arg1 : DevRef τ sig)
    ∧ after opsA W (main_arg2 : DevRef τ sig) = W (main_arg2 : DevRef τ sig) := by
  simp only [opsA, hostOps0_1, List.take_succ_cons, List.take_zero]
  refine ⟨?_, ?_, ?_, ?_, ?_, ?_, ?_⟩
  all_goals after_results
  all_goals rfl

theorem stageB :
    after opsB W (main_v24 : DevRef τ sig) = own
    ∧ after opsB W (main_v12 : DevRef τ sig) = W (main_v12 : DevRef τ sig)
    ∧ after opsB W (main_v13 : DevRef τ sig) = W (main_v13 : DevRef τ sig)
    ∧ after opsB W (main_v14 : DevRef τ sig) = W (main_v14 : DevRef τ sig)
    ∧ after opsB W (main_v2 : DevRef τ sig) = W (main_v2 : DevRef τ sig)
    ∧ after opsB W (main_arg0 : DevRef τ sig) = W (main_arg0 : DevRef τ sig)
    ∧ after opsB W (main_arg1 : DevRef τ sig) = W (main_arg1 : DevRef τ sig)
    ∧ after opsB W (main_arg2 : DevRef τ sig) = W (main_arg2 : DevRef τ sig) := by
  simp only [opsB, hostOps0_1, List.drop_succ_cons, List.drop_zero, List.take_succ_cons, List.take_zero]
  refine ⟨?_, ?_, ?_, ?_, ?_, ?_, ?_, ?_⟩
  all_goals after_results
  all_goals rfl

theorem stageC :
    after opsC W (main_v36 : DevRef τ sig) = twice (mulf (W (main_arg0 : DevRef τ sig)) (broadcastInDim S4x8192x512 ![] bcast_S_S4x8192x512 (mulf (constant S_ .f32 0x3E000000#32) (W (main_v2 : DevRef τ sig)))))
    ∧ after opsC W (main_v24 : DevRef τ sig) = W (main_v24 : DevRef τ sig)
    ∧ after opsC W (main_v12 : DevRef τ sig) = W (main_v12 : DevRef τ sig)
    ∧ after opsC W (main_v13 : DevRef τ sig) = W (main_v13 : DevRef τ sig)
    ∧ after opsC W (main_v14 : DevRef τ sig) = W (main_v14 : DevRef τ sig)
    ∧ after opsC W (main_arg1 : DevRef τ sig) = W (main_arg1 : DevRef τ sig)
    ∧ after opsC W (main_arg2 : DevRef τ sig) = W (main_arg2 : DevRef τ sig) := by
  simp only [opsC, hostOps0_1, List.drop_succ_cons, List.drop_zero, List.take_succ_cons, List.take_zero]
  refine ⟨?_, ?_, ?_, ?_, ?_, ?_, ?_⟩
  all_goals after_results
  all_goals rfl

theorem stageD :
    after opsD W (main_v44 : DevRef τ sig) = halves (gatesQ (W (main_v12 : DevRef τ sig)) (W (main_v13 : DevRef τ sig)) (W (main_v14 : DevRef τ sig)))
    ∧ after opsD W (main_v36 : DevRef τ sig) = W (main_v36 : DevRef τ sig)
    ∧ after opsD W (main_v24 : DevRef τ sig) = W (main_v24 : DevRef τ sig)
    ∧ after opsD W (main_v12 : DevRef τ sig) = W (main_v12 : DevRef τ sig)
    ∧ after opsD W (main_v13 : DevRef τ sig) = W (main_v13 : DevRef τ sig)
    ∧ after opsD W (main_v14 : DevRef τ sig) = W (main_v14 : DevRef τ sig)
    ∧ after opsD W (main_arg1 : DevRef τ sig) = W (main_arg1 : DevRef τ sig)
    ∧ after opsD W (main_arg2 : DevRef τ sig) = W (main_arg2 : DevRef τ sig) := by
  simp only [opsD, hostOps0_1, List.drop_succ_cons, List.drop_zero]
  refine ⟨?_, ?_, ?_, ?_, ?_, ?_, ?_, ?_⟩
  all_goals after_results
  all_goals rfl

theorem stage2 :
    after hostOps0_2 W (main_v45 : DevRef τ sig) = select (W (main_v24 : DevRef τ sig)) (W (main_v36 : DevRef τ sig)) (W (main_v44 : DevRef τ sig))
    ∧ after hostOps0_2 W (main_v24 : DevRef τ sig) = W (main_v24 : DevRef τ sig)
    ∧ after hostOps0_2 W (main_v12 : DevRef τ sig) = W (main_v12 : DevRef τ sig)
    ∧ after hostOps0_2 W (main_v13 : DevRef τ sig) = W (main_v13 : DevRef τ sig)
    ∧ after hostOps0_2 W (main_v14 : DevRef τ sig) = W (main_v14 : DevRef τ sig)
    ∧ after hostOps0_2 W (main_arg1 : DevRef τ sig) = W (main_arg1 : DevRef τ sig)
    ∧ after hostOps0_2 W (main_arg2 : DevRef τ sig) = W (main_arg2 : DevRef τ sig) := by
  simp only [hostOps0_2]
  refine ⟨?_, ?_, ?_, ?_, ?_, ?_, ?_⟩
  all_goals after_results
  all_goals rfl

theorem stageE :
    after opsE W (main_v46 : DevRef τ sig) = truncf .bf16 (show Vec F S4x8192x1024 .f32 from W (main_v45 : DevRef τ sig)) bitsLt_bf16_f32
    ∧ after opsE W (main_v55 : DevRef τ sig) = twice (W (main_arg1 : DevRef τ sig))
    ∧ after opsE W (main_v24 : DevRef τ sig) = W (main_v24 : DevRef τ sig)
    ∧ after opsE W (main_v12 : DevRef τ sig) = W (main_v12 : DevRef τ sig)
    ∧ after opsE W (main_v13 : DevRef τ sig) = W (main_v13 : DevRef τ sig)
    ∧ after opsE W (main_v14 : DevRef τ sig) = W (main_v14 : DevRef τ sig)
    ∧ after opsE W (main_arg2 : DevRef τ sig) = W (main_arg2 : DevRef τ sig) := by
  simp only [opsE, hostOps0_3, List.take_succ_cons, List.take_zero]
  refine ⟨?_, ?_, ?_, ?_, ?_, ?_, ?_⟩
  all_goals after_results
  all_goals rfl

theorem stageF :
    after opsF W (main_v66 : DevRef τ sig) = halves (gatesK (W (main_v12 : DevRef τ sig)) (W (main_v13 : DevRef τ sig)) (W (main_v14 : DevRef τ sig)))
    ∧ after opsF W (main_v46 : DevRef τ sig) = W (main_v46 : DevRef τ sig)
    ∧ after opsF W (main_v55 : DevRef τ sig) = W (main_v55 : DevRef τ sig)
    ∧ after opsF W (main_v24 : DevRef τ sig) = W (main_v24 : DevRef τ sig)
    ∧ after opsF W (main_arg2 : DevRef τ sig) = W (main_arg2 : DevRef τ sig) := by
  simp only [opsF, hostOps0_3, List.drop_succ_cons, List.drop_zero]
  refine ⟨?_, ?_, ?_, ?_, ?_⟩
  all_goals after_results
  all_goals rfl

theorem stage4 :
    after hostOps0_4 W (main_v67 : DevRef τ sig) = select (W (main_v24 : DevRef τ sig)) (W (main_v55 : DevRef τ sig)) (W (main_v66 : DevRef τ sig))
    ∧ after hostOps0_4 W (main_v46 : DevRef τ sig) = W (main_v46 : DevRef τ sig)
    ∧ after hostOps0_4 W (main_arg2 : DevRef τ sig) = W (main_arg2 : DevRef τ sig) := by
  simp only [hostOps0_4]
  refine ⟨?_, ?_, ?_⟩
  all_goals after_results
  all_goals rfl

theorem stage5 :
    after hostOps0_5 W (main_v68 : DevRef τ sig) = truncf .bf16 (show Vec F S4x8192x1024 .f32 from W (main_v67 : DevRef τ sig)) bitsLt_bf16_f32
    ∧ after hostOps0_5 W (main_v71 : DevRef τ sig) = turned (W (main_arg2 : DevRef τ sig))
    ∧ after hostOps0_5 W (main_v74 : DevRef τ sig) = cmpi .eq (iotaInDim S4x16x16x512 32 2) (broadcastInDim S4x16x16x512 ![] bcast_S_S4x16x16x512 (constantI S_ 32 0#32))
    ∧ after hostOps0_5 W (main_cst_10 : DevRef τ sig) = constant S_ .f32 0x3F800000#32
    ∧ after hostOps0_5 W (main_cst_11 : DevRef τ sig) = constant S_ .f32 0x00000000#32
    ∧ after hostOps0_5 W (main_v46 : DevRef τ sig) = W (main_v46 : DevRef τ sig) := by
  simp only [hostOps0_5]
  refine ⟨?_, ?_, ?_, ?_, ?_, ?_⟩
  all_goals after_results
  all_goals rfl

theorem stage6 :
    after hostOps0_6 W (main_v75 : DevRef τ sig) = select (W (main_v74 : DevRef τ sig)) (broadcastInDim S4x16x16x512 ![] bcast_S_S4x16x16x512 (W (main_cst_10 : DevRef τ sig))) (broadcastInDim S4x16x16x512 ![] bcast_S_S4x16x16x512 (W (main_cst_11 : DevRef τ sig)))
    ∧ after hostOps0_6 W (main_v71 : DevRef τ sig) = W (main_v71 : DevRef τ sig)
    ∧ after hostOps0_6 W (main_v46 : DevRef τ sig) = W (main_v46 : DevRef τ sig)
    ∧ after hostOps0_6 W (main_v68 : DevRef τ sig) = W (main_v68 : DevRef τ sig) := by
  simp only [hostOps0_6]
  refine ⟨?_, ?_, ?_, ?_⟩
  all_goals after_results
  all_goals rfl

theorem stage7 :
    after hostOps0_7 W (main_v86 : DevRef τ sig) = joined (W (main_v71 : DevRef τ sig)) (truncf .bf16 (show Vec F S4x16x16x512 .f32 from W (main_v75 : DevRef τ sig)) bitsLt_bf16_f32)
    ∧ after hostOps0_7 W (main_v46 : DevRef τ sig) = W (main_v46 : DevRef τ sig)
    ∧ after hostOps0_7 W (main_v68 : DevRef τ sig) = W (main_v68 : DevRef τ sig) := by
  simp only [hostOps0_7]
  refine ⟨?_, ?_, ?_⟩
  all_goals after_results
  all_goals rfl

/-! ## The arrays the launch reads -/

variable (m : (ℓ : Loc nD τ sig) → Buf (Elt F) ℓ) (c : Dev nD)

/-- The memory the launch meets, as the cut operations leave it. -/
theorem V_eq (b : Ref sig .tc) :
    V m c b = after hostOps0_7 (after hostOps0_6 (after hostOps0_5 (after hostOps0_4 (after opsF (after opsE
      (after hostOps0_2 (after opsD (after opsC (after opsB (after opsA (after hostOps0 (fun b => m (c, b))))))))))))) (b : DevRef τ sig) := by
  unfold V
  simp only [List.flatten_cons, List.flatten_nil, List.append_nil, after_append]
  rw [show (hostOps0_1 : List (HloOp τ sig (Elt F))) = opsA ++ (opsB ++ (opsC ++ opsD)) from rfl,
    show (hostOps0_3 : List (HloOp τ sig (Elt F))) = opsE ++ opsF from rfl]
  simp only [after_append]

/-- The launch finds the queries and the keys with the gates, and the values with the ones. -/
theorem V_all : V m c main_v46 = qaug (m ((c : Thread nD τ).loc main_arg0)) (gates (m ((c : Thread nD τ).loc main_arg3)))
    ∧ V m c main_v68 = kaug (m ((c : Thread nD τ).loc main_arg1)) (gates (m ((c : Thread nD τ).loc main_arg3)))
    ∧ V m c main_v86 = vaug (m ((c : Thread nD τ).loc main_arg2)) := by
  rw [V_eq, V_eq, V_eq]
  generalize hU : (fun b => m (c, b) : Valuation τ sig (Elt F)) = U
  have e0 := stage0 U
  have eA := stageA (after hostOps0 U)
  generalize after hostOps0 U = W0 at *
  have eB := stageB (after opsA W0)
  generalize after opsA W0 = WA at *
  have eC := stageC (after opsB WA)
  generalize after opsB WA = WB at *
  have eD := stageD (after opsC WB)
  generalize after opsC WB = WC at *
  have e2 := stage2 (after opsD WC)
  generalize after opsD WC = WD at *
  have eE := stageE (after hostOps0_2 WD)
  generalize after hostOps0_2 WD = W2 at *
  have eF := stageF (after opsE W2)
  generalize after opsE W2 = WE at *
  have e4 := stage4 (after opsF WE)
  generalize after opsF WE = WF at *
  have e5 := stage5 (after hostOps0_4 WF)
  generalize after hostOps0_4 WF = W4 at *
  have e6 := stage6 (after hostOps0_5 W4)
  generalize after hostOps0_5 W4 = W5 at *
  have e7 := stage7 (after hostOps0_6 W5)
  generalize after hostOps0_6 W5 = W6 at *
  simp only [e0, eA, eB, eC, eD, e2, eE, eF, e4, e5, e6, e7]
  subst hU
  exact ⟨rfl, rfl, rfl⟩

end Cert.Proof.Fox

end
-- ==== Proof.Ref.lean ====
/-
  The run of the reference: @main is a straight line of host operations, so every buffer ends at the operations' results over
  the launch contents. The result is cut into four named stages: the running sums of the gates (`cum`), the masked scores
  (`scores`), the weights (`weights`) and the weighted sums of the values (`mix`).
-/
module

public import Idealize.ShloMosaic.Lib.StableHlo.Run
public import Idealize.ShloMosaic.Lib.Quiescent
public import proofs.«01_k».proof.Proof.Gen.ReferenceIdeal
public import proofs.«01_k».proof.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The gates' running sums along the sequence. -/
def cum (g : Vec F S4x8192x8 .f32) : Vec F S4x8192x8 .f32 :=
  Host.reduceWindowAdd ![1, 8192, 1] ![1, 1, 1] ![0, 8191, 0] ![0, 0, 0] g (broadcastInDim S_ ![] bcast_S_S_ (constant S_ .f32 0x00000000#32)) reduceWindows_S4x8192x8_S4x8192x8_w1s1p0_0_w8192s1p8191_0_w1s1p0_0 h_S_

/-- The pairs a query may look at: a key at or before it. -/
def seen : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The decay of each pair: the difference of the running sums. -/
def decay (c : Vec F S4x8192x8 .f32) : Vec F S4x8x8192x8192 .f32 :=
  subf (broadcastInDim S4x8x8192x8192 ![0, 1, 2, 3] bcast_S4x8x8192x1_S4x8x8192x8192_0_1_2_3 (broadcastInDim S4x8x8192x1 ![0, 1, 2] bcast_S4x8x8192_S4x8x8192x1_0_1_2 (transpose S4x8x8192 [0, 2, 1] c transposes_S4x8192x8_S4x8x8192_0_2_1)))
    (broadcastInDim S4x8x8192x8192 ![0, 1, 2, 3] bcast_S4x8x1x8192_S4x8x8192x8192_0_1_2_3 (broadcastInDim S4x8x1x8192 ![0, 1, 3] bcast_S4x8x8192_S4x8x1x8192_0_1_3 (transpose S4x8x8192 [0, 2, 1] c transposes_S4x8192x8_S4x8x8192_0_2_1)))

/-- The products of queries and keys. -/
def dots (q k : Vec F S4x8192x512 .f32) : Vec F S4x8x8192x8192 .f32 :=
  Host.dotGeneral dot_S4x8192x8x64_S4x8192x8x64_S4x8x8192x8192_3_3_1_1_02_02 none (shapeCast S4x8192x8x64 q shapeCasts_S4x8192x512_S4x8192x8x64) (shapeCast S4x8192x8x64 k shapeCasts_S4x8192x512_S4x8192x8x64)

/-- The masked scores. -/
def scores (q k : Vec F S4x8192x512 .f32) (c : Vec F S4x8192x8 .f32) : Vec F S4x8x8192x8192 .f32 :=
  select (broadcastInDim S4x8x8192x8192 ![2, 3] bcast_S8192x8192_S4x8x8192x8192_2_3 seen)
    (addf (mulf (dots q k) (broadcastInDim S4x8x8192x8192 ![] bcast_S_S4x8x8192x8192 (constant S_ .f32 0x3E000000#32))) (decay c))
    (broadcastInDim S4x8x8192x8192 ![] bcast_S_S4x8x8192x8192 (constant S_ .f32 0xFF800000#32))

/-- A row's largest score. -/
def top (s : Vec F S4x8x8192x8192 .f32) : Vec F S4x8x8192 .f32 :=
  maximumf (broadcastInDim S4x8x8192 ![] bcast_S_S4x8x8192 (constant S_ .f32 0xFF800000#32))
    (Host.reduce FloatOps.maximumf s (constant S_ .f32 0xFF800000#32) reducesTo_S4x8x8192x8192_S4x8x8192_d3 h_S_)

/-- A row of numbers spread along the keys. -/
def spread (x : Vec F S4x8x8192 .f32) : Vec F S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

/-- The exponentials over the largest score. -/
def exps (s : Vec F S4x8x8192x8192 .f32) : Vec F S4x8x8192x8192 .f32 := Host.exp (subf s (spread (top s)))

/-- The weights: each row's exponentials over their sum. -/
def weights (e : Vec F S4x8x8192x8192 .f32) : Vec F S4x8x8192x8192 .f32 :=
  Host.divf e (spread (Host.reduceAdd e (constant S_ .f32 0x00000000#32) reducesTo_S4x8x8192x8192_S4x8x8192_d3 h_S_))

/-- The weighted sums of the values, the heads side by side. -/
def mix (v : Vec F S4x8192x512 .f32) (p : Vec F S4x8x8192x8192 .f32) : Vec F S4x8192x512 .f32 :=
  shapeCast S4x8192x512 (transpose S4x8192x8x64 [0, 3, 1, 2]
    (Host.dotGeneral dot_S4x8192x8x64_S4x8x8192x8192_S4x8x64x8192_1_3_3_2_02_01 none (shapeCast S4x8192x8x64 v shapeCasts_S4x8192x512_S4x8192x8x64) p)
    transposes_S4x8x64x8192_S4x8192x8x64_0_3_1_2) shapeCasts_S4x8192x8x64_S4x8192x512

/-- The reference's result. -/
def out (q k v : Vec F S4x8192x512 .f32) (g : Vec F S4x8192x8 .f32) : Vec F S4x8192x512 .f32 :=
  mix v (weights (exps (scores q k (cum g))))

/-- @main's operations, in order. -/
abbrev ops : List (HloOp τ sig (Elt F)) :=
  [ reshape main_arg0 main_v0 (rfl : (.f32 : EltTy) = .f32) shapeCasts_S4x8192x512_S4x8192x8x64,
    reshape main_arg1 main_v1 (rfl : (.f32 : EltTy) = .f32) shapeCasts_S4x8192x512_S4x8192x8x64,
    reshape main_arg2 main_v2 (rfl : (.f32 : EltTy) = .f32) shapeCasts_S4x8192x512_S4x8192x8x64,
    nullary main_call0_call0_cst (constant S_ .f32 0x00000000#32),
    unary main_call0_call0_cst main_call0_call0_v0 (broadcastInDim S_ ![] bcast_S_S_),
    binary main_arg3 main_call0_call0_v0 main_v3 (fun x v => Host.reduceWindowAdd ![1, 8192, 1] ![1, 1, 1] ![0, 8191, 0] ![0, 0, 0] x v reduceWindows_S4x8192x8_S4x8192x8_w1s1p0_0_w8192s1p8191_0_w1s1p0_0 h_S_),
    unary main_v3 main_v4 ((transpose S4x8x8192 [0, 2, 1] · transposes_S4x8192x8_S4x8x8192_0_2_1)),
    binary main_v0 main_v1 main_v5 ((fun l r => Host.dotGeneral dot_S4x8192x8x64_S4x8192x8x64_S4x8x8192x8192_3_3_1_1_02_02 none l r)),
    nullary main_cst (constant S_ .f32 0x3E000000#32),
    unary main_cst main_v6 (broadcastInDim S4x8x8192x8192 ![] bcast_S_S4x8x8192x8192),
    binary main_v5 main_v6 main_v7 (mulf),
    unary main_v4 main_v8 (broadcastInDim S4x8x8192x1 ![0, 1, 2] bcast_S4x8x8192_S4x8x8192x1_0_1_2),
    unary main_v4 main_v9 (broadcastInDim S4x8x1x8192 ![0, 1, 3] bcast_S4x8x8192_S4x8x1x8192_0_1_3),
    unary main_v8 main_v10 (broadcastInDim S4x8x8192x8192 ![0, 1, 2, 3] bcast_S4x8x8192x1_S4x8x8192x8192_0_1_2_3),
    unary main_v9 main_v11 (broadcastInDim S4x8x8192x8192 ![0, 1, 2, 3] bcast_S4x8x1x8192_S4x8x8192x8192_0_1_2_3),
    binary main_v10 main_v11 main_v12 (subf),
    binary main_v7 main_v12 main_v13 (addf),
    nullary main_v14 (iotaInDim S8192 32 0),
    unary main_v14 main_v15 (broadcastInDim S1x8192 ![1] bcast_S8192_S1x8192_1),
    unary main_v14 main_v16 (broadcastInDim S8192x1 ![0] bcast_S8192_S8192x1_0),
    unary main_v15 main_v17 (broadcastInDim S8192x8192 ![0, 1] bcast_S1x8192_S8192x8192_0_1),
    unary main_v16 main_v18 (broadcastInDim S8192x8192 ![0, 1] bcast_S8192x1_S8192x8192_0_1),
    binary main_v17 main_v18 main_v19 (cmpi .sle),
    nullary main_cst_0 (constant S_ .f32 0xFF800000#32),
    unary main_cst_0 main_call1_v0 id,
    unary main_v19 main_call1_v1 (broadcastInDim S4x8x8192x8192 ![2, 3] bcast_S8192x8192_S4x8x8192x8192_2_3),
    unary main_call1_v0 main_call1_v2 (broadcastInDim S4x8x8192x8192 ![] bcast_S_S4x8x8192x8192),
    ternary main_call1_v1 main_v13 main_call1_v2 main_v20 select,
    nullary main_cst_1 (constant S_ .f32 0xFF800000#32),
    binary main_v20 main_cst_1 main_v21 ((fun x v => Host.reduce FloatOps.maximumf x v reducesTo_S4x8x8192x8192_S4x8x8192_d3 h_S_)),
    nullary main_cst_2 (constant S_ .f32 0xFF800000#32),
    unary main_cst_2 main_v22 (broadcastInDim S4x8x8192 ![] bcast_S_S4x8x8192),
    binary main_v22 main_v21 main_v23 (maximumf),
    unary main_v23 main_v24 (broadcastInDim S4x8x8192x1 ![0, 1, 2] bcast_S4x8x8192_S4x8x8192x1_0_1_2),
    unary main_v24 main_v25 (broadcastInDim S4x8x8192x8192 ![0, 1, 2, 3] bcast_S4x8x8192x1_S4x8x8192x8192_0_1_2_3),
    binary main_v20 main_v25 main_v26 (subf),
    unary main_v26 main_v27 (Host.exp),
    nullary main_cst_3 (constant S_ .f32 0x00000000#32),
    binary main_v27 main_cst_3 main_v28 ((fun x v => Host.reduceAdd x v reducesTo_S4x8x8192x8192_S4x8x8192_d3 h_S_)),
    unary main_v28 main_v29 (broadcastInDim S4x8x8192x1 ![0, 1, 2] bcast_S4x8x8192_S4x8x8192x1_0_1_2),
    unary main_v29 main_v30 (broadcastInDim S4x8x8192x8192 ![0, 1, 2, 3] bcast_S4x8x8192x1_S4x8x8192x8192_0_1_2_3),
    binary main_v27 main_v30 main_v31 (Host.divf),
    binary main_v2 main_v31 main_v32 ((fun l r => Host.dotGeneral dot_S4x8192x8x64_S4x8x8192x8192_S4x8x64x8192_1_3_3_2_02_01 none l r)),
    unary main_v32 main_v33 ((transpose S4x8192x8x64 [0, 3, 1, 2] · transposes_S4x8x64x8192_S4x8192x8x64_0_3_1_2)),
    reshape main_v33 main_v34 (rfl : (.f32 : EltTy) = .f32) shapeCasts_S4x8192x8x64_S4x8192x512 ]

/-- @main is that straight line. -/
theorem main_eq (c : Dev nD) : main (F := F) c = seq ops := rfl

/-- The fold of the operations, at the result's buffer. -/
theorem out_eq (V : Valuation τ sig (Elt F)) :
    after ops V (main_v34 : DevRef τ sig) = out (V (main_arg0 : DevRef τ sig)) (V (main_arg1 : DevRef τ sig)) (V (main_arg2 : DevRef τ sig)) (V (main_arg3 : DevRef τ sig)) := by
  after_results
  rfl

/-- No operation writes an argument's buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., reshape_bufs_sub .., reshape_bufs_sub .., nullary_bufs_sub .., unary_bufs_sub .., binary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub ..⟩

/-- Every execution of the reference ends, with its result, its arguments as they were and every semaphore counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_v34) = out (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v34).trans (out_eq _), (h c main_arg0).trans (arg0_eq _),
      (h c main_arg1).trans (arg1_eq _), (h c main_arg2).trans (arg2_eq _), (h c main_arg3).trans (arg3_eq _)⟩,
      sem_eq_zero_of_no_sems (by decide) r.2⟩)
    (run_seq scopedRefs_eq scopedSems_eq defs main (fun _ => ops) main_eq (fun _ => ops_sub) m ρ)

end Cert.Proof.Ref

end
-- ==== Proof.RefAt.lean ====
/-
  The reference number by number: a query's result is the sum of the values weighted by the exponentials of the masked scores
  over their sum (`out_apply`).
-/
module

public import proofs.«01_k».proof.Proof.Ref
public import proofs.«01_k».proof.Proof.Softmax
public import Idealize.ShloMosaic.Lib.Pointwise
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.WordCmp

/-- Column `d` of head `h`. -/
def col (h : Fin 8) (d : Fin 64) : Fin 512 := ⟨h.val * 64 + d.val, by have := h.isLt; have := d.isLt; omega⟩
/-- Key `n`. -/
def key (n : ℕ) : Fin 8192 := ⟨n % 8192, Nat.mod_lt _ (by decide)⟩
theorem key_val (n : Fin 8192) : key n.val = n := Fin.ext (Nat.mod_eq_of_lt n.isLt)

theorem ofBits_eighth : Ideal.ofBits .f32 0x3E000000#32 = ((1 / 8 : ℝ) : EReal) := by
  simp [Ideal.ofBits, Ideal.ieee]
  rw [← EReal.coe_mul]
  norm_num
theorem ofBits_negInf : Ideal.ofBits .f32 0xFF800000#32 = ⊥ := by
  simp [Ideal.ofBits, Ideal.ieee]

variable (q k v : FVec Ideal S4x8192x512 .f32) (c : FVec Ideal S4x8192x8 .f32) (b : Fin 4) (h : Fin 8) (t n : Fin 8192)

theorem dots_apply : dots (F := Ideal) q k (ix4 b h t n) = ∑ d : Fin 64, q (ix3 b t (col h d)) * k (ix3 b n (col h d)) := by
  pointwise [dots]
  rfl

theorem decay_apply : decay (F := Ideal) c (ix4 b h t n) = c (ix3 b t h) - c (ix3 b n h) := by
  pointwise [decay]

/-- The score of query `t` and key `n`, before the mask. -/
def raw (n : Fin 8192) : EReal :=
  (∑ d : Fin 64, q (ix3 b t (col h d)) * k (ix3 b n (col h d))) * ((1 / 8 : ℝ) : EReal) + (c (ix3 b t h) - c (ix3 b n h))

/-- The masked score of key `n`. -/
def score (n : ℕ) : EReal := if n ≤ t.val then raw q k c b h t (key n) else ⊥

theorem scores_apply : scores (F := Ideal) q k c (ix4 b h t n) = score q k c b h t n.val := by
  have hn := n.isLt
  have ht := t.isLt
  pointwise [scores, seen]
  rw [show Ideal.ofBits .f32 1040187392#32 = _ from ofBits_eighth, show Ideal.ofBits .f32 4286578688#32 = ⊥ from ofBits_negInf,
    dots_apply, decay_apply]
  unfold score
  by_cases hle : n.val ≤ t.val
  · rw [if_pos hle, (cmpi_sle_ofNat_eq_one_iff (by omega) (by omega)).2 hle, key_val]
    rfl
  · rw [if_neg hle, (cmpi_sle_ofNat_eq_zero_iff (by omega) (by omega)).2 (by omega)]
    rfl

/-- The last axis can be dropped. -/
theorem reduces : S4x8x8192x8192.Reduces [3] S4x8x8192 := by decide

/-- A maximum over one axis, at any shapes. -/
theorem reduceMax_single {s t u : Shape} {a : Fin s.rank} (x : FVec Ideal s .f32) (init : FVec Ideal u .f32) (h' : s.ReducesTo [a] t)
    (h : s.Reduces [a] t) (hu : 0 < u.numel) (j : t.Idx) (hi : init (Shape.Idx.first hu) = (⊥ : EReal)) :
    Host.reduce (FloatOps.maximumf (F := Ideal) (φ := .f32)) x init h' hu j
      = (Finset.univ : Finset (Fin (s.size a))).sup fun n => x (h.lift j n) := by
  rw [Host.reduce_eq_fold_single _ x init h' h hu j, hi]
  rfl

theorem lift_eq (n : Fin 8192) : reduces.lift (ix3 b h t) n = ix4 b h t n := by
  funext a
  match a with
  | ⟨0, _⟩ => rfl
  | ⟨1, _⟩ => rfl
  | ⟨2, _⟩ => rfl
  | ⟨3, _⟩ => rfl

/-- A maximum over the keys. -/
theorem reduceMax_apply (s : FVec Ideal S4x8x8192x8192 .f32) (init : FVec Ideal S_ .f32) (hi : init (Shape.Idx.first h_S_) = (⊥ : EReal)) :
    Host.reduce (FloatOps.maximumf (F := Ideal) (φ := .f32)) s init reducesTo_S4x8x8192x8192_S4x8x8192_d3 h_S_ (ix3 b h t)
      = (Finset.univ : Finset (Fin 8192)).sup fun n => s (ix4 b h t n) := by
  refine (reduceMax_single s init reducesTo_S4x8x8192x8192_S4x8x8192_d3 reduces h_S_ (ix3 b h t) hi).trans ?_
  exact Finset.sup_congr rfl fun n _ => congrArg s (lift_eq b h t n)

theorem max_bot {s : Shape} (x y : FVec Ideal s .f32) (j : s.Idx) (hx : x j = (⊥ : EReal)) : maximumf x y j = y j := by
  show max (x j : EReal) (y j) = y j
  rw [hx]
  exact max_eq_right bot_le

theorem top_apply (s : FVec Ideal S4x8x8192x8192 .f32) :
    top (F := Ideal) s (ix3 b h t) = (Finset.univ : Finset (Fin 8192)).sup fun n => s (ix4 b h t n) := by
  unfold top
  rw [max_bot _ _ _ (by exact ofBits_negInf), reduceMax_apply b h t s _ (by exact ofBits_negInf)]

theorem weights_apply (s : FVec Ideal S4x8x8192x8192 .f32) :
    weights (F := Ideal) (exps (F := Ideal) s) (ix4 b h t n)
      = Ideal.div (Ideal.exp (s (ix4 b h t n) - top (F := Ideal) s (ix3 b h t)))
          (∑ x : Fin 8192, Ideal.exp (s (ix4 b h t x) - top (F := Ideal) s (ix3 b h t))) := by
  pointwise [weights, exps, spread]

theorem mix_apply (d : Fin 64) (p : FVec Ideal S4x8x8192x8192 .f32) :
    mix (F := Ideal) v p (ix3 b t (col h d)) = ∑ n : Fin 8192, v (ix3 b n (col h d)) * p (ix4 b h t n) := by
  pointwise [mix]
  refine Finset.sum_congr rfl fun n _ => congrArg (fun i : Fin 8 => v (ix3 b n (col h d)) * p (ix4 b i t n)) (Fin.ext ?_)
  have hd := d.isLt
  show (h.val * 64 + d.val) / 64 = h.val
  omega

/-- One number of the reference's result. -/
theorem out_apply (g : FVec Ideal S4x8192x8 .f32) (d : Fin 64) :
    out (F := Ideal) q k v g (ix3 b t (col h d))
      = ∑ n ∈ Finset.range 8192, v (ix3 b (key n) (col h d))
          * Ideal.div (Ideal.exp (score q k (cum (F := Ideal) g) b h t n - Softmax.top (score q k (cum (F := Ideal) g) b h t) 8192))
              (∑ n ∈ Finset.range 8192, Ideal.exp (score q k (cum (F := Ideal) g) b h t n - Softmax.top (score q k (cum (F := Ideal) g) b h t) 8192)) := by
  have htop : top (F := Ideal) (scores (F := Ideal) q k (cum (F := Ideal) g)) (ix3 b h t) = Softmax.top (score q k (cum (F := Ideal) g) b h t) 8192 := by
    rw [top_apply]
    refine le_antisymm (Finset.sup_le fun n _ => ?_) (Finset.sup_le fun n hn => ?_)
    · rw [scores_apply]
      exact Softmax.le_top _ _ _ n.isLt
    · have h1 : scores (F := Ideal) q k (cum (F := Ideal) g) (ix4 b h t ⟨n, Finset.mem_range.1 hn⟩) = score q k (cum (F := Ideal) g) b h t n := scores_apply ..
      rw [← h1]
      exact Finset.le_sup (f := fun n : Fin 8192 => scores (F := Ideal) q k (cum (F := Ideal) g) (ix4 b h t n)) (Finset.mem_univ _)
  unfold out
  rw [mix_apply, Finset.sum_range]
  refine Finset.sum_congr rfl fun n _ => ?_
  rw [weights_apply, htop, Finset.sum_range, scores_apply, key_val]
  refine congrArg (fun x : EReal => v (ix3 b n (col h d)) * Ideal.div _ x) (Finset.sum_congr rfl fun x _ => ?_)
  rw [scores_apply]

end Cert.Proof.Ref
end
-- ==== Proof.HostAt.lean ====
/-
  The arrays the idealised kernel's host hands the region, read one entry at a time in the extended reals.
-/
module

public import proofs.«01_k».proof.Proof.HostRun
public import proofs.«01_k».proof.Proof.RefAt
public import Idealize.ShloMosaic.Lib.Pointwise

@[expose] public section

set_option maxRecDepth 16384

noncomputable section

namespace Cert.Proof.Fox

open Cert.KernelIdeal Cert.KernelIdeal.Gen
open Idealize.ShloMosaic

/-- A head's column of the widened arrays: one of its two halves of 64. -/
def wide (H : Fin 8) (s : Fin 2) (e : Fin 64) : Fin 1024 := ⟨128 * H.val + (64 * s.val + e.val), by omega⟩

/-- The column of the arguments a column of the widened arrays repeats. -/
def narrow (H : Fin 8) (s : Fin 2) (e : Fin 64) : Fin 512 := ⟨128 * (H.val / 2) + (64 * s.val + e.val), by omega⟩

variable (b : Fin 4) (t : Fin 8192) (H : Fin 8) (s : Fin 2) (e : Fin 64)

theorem own_apply : own (ix3 b t (wide H s e)) = if s.val = H.val % 2 then 1#1 else 0#1 := by
  have h : ∀ k : Fin 1024, IntOp.cmpi .eq (IntOp.shrsi .host (IntOp.andi (BitVec.ofNat 32 k.val) 127#32) 6#32)
      (IntOp.andi (IntOp.shrsi .host (BitVec.ofNat 32 k.val) 7#32) 1#32) = if k.val % 128 / 64 = k.val / 128 % 2 then 1#1 else 0#1 := by
    decide +kernel
  refine (h (wide H s e)).trans ?_
  have e1 : (wide H s e).val % 128 / 64 = s.val := by simp only [wide]; omega
  have e2 : (wide H s e).val / 128 % 2 = H.val % 2 := by simp only [wide]; omega
  rw [e1, e2]

set_option maxHeartbeats 2000000 in
theorem twice_apply (x : Vec Ideal S4x8192x512 .f32) : twice (F := Ideal) x (ix3 b t (wide H s e)) = x (ix3 b t (narrow H s e)) := by
  fin_cases H <;> pointwise [twice, wide, narrow] <;>
    (repeat rw [dif_neg (by omega)]) <;> (try rw [dif_pos (by omega)]) <;>
    exact congrArg (fun i => x (ix3 b t i)) (Fin.ext (by simp only []; omega))

theorem halves_apply (x : Vec Ideal S4x8192x8x64 .f32) : halves (F := Ideal) x (ix3 b t (wide H s e)) = x (ix4 b t H e) := by
  fin_cases s <;> pointwise [halves, wide] <;> split_ifs <;>
    first
    | omega
    | exact congrArg (fun i => x (ix4 b t H i)) (Fin.ext (by simp only []; omega))

theorem gatesQ_apply (x y z : Vec Ideal S4x8192x8 .f32) : gatesQ (F := Ideal) x y z (ix4 b t H e)
    = if e.val = 0 then x (ix3 b t H) else if e.val = 1 then y (ix3 b t H) else if e.val = 2 then z (ix3 b t H) else if e.val < 6 then 1 else 0 := by
  pointwise [gatesQ, column]
  split_ifs <;> first | rfl | omega

theorem gatesK_apply (x y z : Vec Ideal S4x8192x8 .f32) : gatesK (F := Ideal) x y z (ix4 b t H e)
    = if e.val < 3 then 1 else if e.val = 3 then -x (ix3 b t H) else if e.val = 4 then -y (ix3 b t H) else if e.val = 5 then -z (ix3 b t H) else 0 := by
  pointwise [gatesK, column]
  split_ifs <;> first | rfl | omega

/-- A channel's row of the widened values. -/
def tall (H : Fin 8) (d : Fin 80) : Fin 640 := ⟨80 * H.val + d.val, by omega⟩

theorem oneRow_apply (j : Fin 16) (a : Fin 16) (l : Fin 512) : oneRow (F := Ideal) (ix4 b j a l) = if a.val = 0 then 1 else 0 := by
  have h : ∀ k : Fin 16, IntOp.cmpi .eq (BitVec.ofNat 32 k.val) 0#32 = if k.val = 0 then 1#1 else 0#1 := by decide +kernel
  pointwise [oneRow]
  rw [h]
  split_ifs <;> rfl

theorem turned_apply (v : Vec Ideal S4x8192x512 .f32) (j : Fin 16) (a : Fin 512) (l : Fin 512) :
    turned (F := Ideal) v (ix4 b j a l) = v (ix3 b ⟨512 * j.val + l.val, by omega⟩ a) := by
  pointwise [turned]
  exact congrArg (fun i => v (ix3 b i a)) (Fin.ext (by simp only []; omega))

/-- The blocks' shapes. -/
abbrev blockShapes : List Shape := [S4x16x64x512, S4x16x16x512, S4x16x64x512, S4x16x16x512, S4x16x64x512, S4x16x16x512, S4x16x64x512, S4x16x16x512,
  S4x16x64x512, S4x16x16x512, S4x16x64x512, S4x16x16x512, S4x16x64x512, S4x16x16x512, S4x16x64x512, S4x16x16x512]

/-- The row a block starts at. -/
theorem blockStart : ∀ (H : Fin 8) (u : Fin 2), ((blockShapes.take (2 * H.val + u.val)).map fun s =>
    if h : s.rank = S4x16x640x512.rank then s.size ((2 : Fin S4x16x640x512.rank).cast h.symm) else 0).sum = 80 * H.val + 64 * u.val := by
  decide +kernel

set_option maxHeartbeats 1000000 in
/-- What fills a row of the widened values: a block's own row in the first 64 of its 80, the other array's below. -/
theorem joined_apply (x : Vec Ideal S4x16x512x512 .bf16) (o : Vec Ideal S4x16x16x512 .bf16) (j : Fin 16) (d : Fin 80) (l : Fin 512) :
    joined (F := Ideal) x o (ix4 b j (tall H d) l) = if h : d.val < 64 then x (ix4 b j ⟨64 * H.val + d.val, by omega⟩ l) else o (ix4 b j ⟨d.val - 64, by omega⟩ l) := by
  split_ifs with h
  · have hx : ∃ hs, (blocks (F := Ideal) x o)[2 * H.val]'(by simp only [blocks, List.length_cons, List.length_nil]; omega) = ⟨S4x16x64x512, extractStridedSlice S4x16x64x512 ![0, 0, 64 * H.val, 0] x hs⟩ := by
      fin_cases H <;> exact ⟨_, rfl⟩
    obtain ⟨hs, hx⟩ := hx
    refine (concatenate_apply_piece (t := S4x16x640x512) 2 _ _ _ (2 * H.val) _ S4x16x64x512 _ hx rfl (80 * H.val) ?_ (ix4 b j ⟨d.val, h⟩ l) ?_ ?_).trans ?_
    · rw [List.map_take]
      exact blockStart H 0
    · intro a ha; fin_cases a <;> first | rfl | exact absurd rfl ha
    · rfl
    · pointwise []
  · have hx : (blocks (F := Ideal) x o)[2 * H.val + 1]'(by simp only [blocks, List.length_cons, List.length_nil]; omega) = ⟨S4x16x16x512, o⟩ := by
      fin_cases H <;> rfl
    refine concatenate_apply_piece (t := S4x16x640x512) 2 _ _ _ (2 * H.val + 1) _ S4x16x16x512 _ hx rfl (80 * H.val + 64) ?_ (ix4 b j ⟨d.val - 64, by omega⟩ l) ?_ ?_
    · rw [List.map_take]
      exact blockStart H 1
    · intro a ha; fin_cases a <;> first | rfl | exact absurd rfl ha
    · show 80 * H.val + 64 + (d.val - 64) = 80 * H.val + d.val
      omega

end Cert.Proof.Fox

end
-- ==== Proof.HostDot.lean ====
/-
  A key's widened column against a query's: for finite queries, keys and gates it is the reference's score in units of the
  logarithm of two. And the widened values: a head's own, and a one under them.
-/
module

public import proofs.«01_k».proof.Proof.HostAt
public import proofs.«01_k».proof.Proof.Softmax

@[expose] public section

set_option maxRecDepth 16384

noncomputable section

namespace Cert.Proof.Fox

open Cert.KernelIdeal Cert.KernelIdeal.Gen
open Idealize.ShloMosaic
open Cert.Proof.Softmax (Fin' lg)

variable (b : Fin 4) (t n : Fin 8192) (H : Fin 8) (s : Fin 2) (e : Fin 64)

theorem rln2_apply (i : S_.Idx) : rln2 (F := Ideal) i = ((lg : ℝ) : EReal) := by
  have h2 : Ideal.ofBits .f32 0x40000000#32 = ((2 : ℝ) : EReal) := by
    simp [Ideal.ofBits, Ideal.ieee]
    rw [← EReal.coe_mul]; norm_num
  show Ideal.div (Ideal.ofBits .f32 0x3F800000#32) (Ideal.log (Ideal.ofBits .f32 0x40000000#32)) = _
  rw [h2, Ideal.ofBits_one_f32, Ideal.log_coe, if_neg (by norm_num), Ideal.div_coe (Real.log_pos (by norm_num)).ne', one_mul]
  rfl

theorem gates_apply (g : Vec Ideal S4x8192x8 .f32) (i : S4x8192x8.Idx) : gates (F := Ideal) g i = Ref.cum (F := Ideal) g i * ((lg : ℝ) : EReal) := by
  show cumK (F := Ideal) g i * rln2 (F := Ideal) _ = _
  rw [rln2_apply]; rfl

theorem scaled_apply (q : Vec Ideal S4x8192x512 .f32) (i : S4x8192x512.Idx) : scaled (F := Ideal) q i = q i * ((1 / 8 * lg : ℝ) : EReal) := by
  show q i * (Ideal.ofBits .f32 0x3E000000#32 * rln2 (F := Ideal) _) = _
  rw [rln2_apply, Ref.ofBits_eighth, ← EReal.coe_mul]

theorem part_apply (x : Vec Ideal S4x8192x8 .f32) : part (F := Ideal) x = x := rfl

theorem left_apply (x : Vec Ideal S4x8192x8 .f32) (i : S4x8192x8.Idx) (hx : Fin' (x i)) : left (F := Ideal) x i = 0 := by
  obtain ⟨r, hr⟩ := hx
  show x i - x i = 0
  rw [hr, ← EReal.coe_sub, sub_self, EReal.coe_zero]

theorem left_left_apply (x : Vec Ideal S4x8192x8 .f32) (i : S4x8192x8.Idx) (hx : Fin' (x i)) : left (F := Ideal) (left (F := Ideal) x) i = 0 :=
  left_apply _ _ ⟨0, by rw [left_apply x i hx, EReal.coe_zero]⟩

theorem qaug_apply (q : Vec Ideal S4x8192x512 .f32) (x : Vec Ideal S4x8192x8 .f32) (hx : Fin' (x (ix3 b t H))) : qaug (F := Ideal) q x (ix3 b t (wide H s e))
    = if s.val = H.val % 2 then q (ix3 b t (narrow H s e)) * ((1 / 8 * lg : ℝ) : EReal)
      else if e.val = 0 then x (ix3 b t H) else if e.val = 1 then 0 else if e.val = 2 then 0 else if e.val < 6 then 1 else 0 := by
  show (if own (ix3 b t (wide H s e)) = 1#1 then twice (F := Ideal) (scaled (F := Ideal) q) (ix3 b t (wide H s e)) else halves (F := Ideal) _ (ix3 b t (wide H s e))) = _
  rw [own_apply, twice_apply, halves_apply, gatesQ_apply, scaled_apply]
  simp only [part_apply, left_left_apply x _ hx, left_apply x _ hx]
  by_cases h : s.val = H.val % 2 <;> simp [h]

theorem kaug_apply (k : Vec Ideal S4x8192x512 .f32) (x : Vec Ideal S4x8192x8 .f32) (hx : Fin' (x (ix3 b t H))) : kaug (F := Ideal) k x (ix3 b t (wide H s e))
    = if s.val = H.val % 2 then k (ix3 b t (narrow H s e))
      else if e.val < 3 then 1 else if e.val = 3 then -x (ix3 b t H) else if e.val = 4 then -0 else if e.val = 5 then -0 else 0 := by
  show (if own (ix3 b t (wide H s e)) = 1#1 then twice (F := Ideal) k (ix3 b t (wide H s e)) else halves (F := Ideal) _ (ix3 b t (wide H s e))) = _
  rw [own_apply, twice_apply, halves_apply, gatesK_apply]
  simp only [part_apply, left_left_apply x _ hx, left_apply x _ hx]
  by_cases h : s.val = H.val % 2 <;> simp [h]

/-- The gates' columns of a key against those of a query. -/
theorem gates_dot (y z : EReal) : (∑ e : Fin 64,
      (if e.val < 3 then 1 else if e.val = 3 then -z else if e.val = 4 then -0 else if e.val = 5 then -0 else 0 : EReal)
        * (if e.val = 0 then y else if e.val = 1 then 0 else if e.val = 2 then 0 else if e.val < 6 then 1 else 0)) = y - z := by
  rw [show (64 : ℕ) = 6 + 58 from rfl, Fin.sum_univ_add]
  rw [Finset.sum_eq_zero (s := (Finset.univ : Finset (Fin 58)))]
  · rw [Fin.sum_univ_six]
    simp [sub_eq_add_neg]
  · intro e _
    simp only [Fin.val_natAdd]
    rw [if_neg (by omega), if_neg (by omega), if_neg (by omega), if_neg (by omega), zero_mul]

/-- A head's column among the 128 of its own. -/
def aug (H : Fin 8) (d : Fin 128) : Fin 1024 := ⟨128 * H.val + d.val, by omega⟩

theorem sum_halves (f : Fin 1024 → EReal) : ∑ d : Fin 128, f (aug H d) = (∑ e : Fin 64, f (wide H 0 e)) + ∑ e : Fin 64, f (wide H 1 e) := by
  refine (Fin.sum_univ_add (a := 64) (b := 64) (fun d : Fin 128 => f (aug H d))).trans ?_
  congr 1 <;> exact Finset.sum_congr rfl fun e _ => congrArg f (Fin.ext (by simp [aug, wide]))

/-- The half of a head's columns that is its own, then the other. -/
theorem sum_own (f : Fin 1024 → EReal) : ∑ d : Fin 128, f (aug H d)
    = (∑ e : Fin 64, f (wide H ⟨H.val % 2, by omega⟩ e)) + ∑ e : Fin 64, f (wide H ⟨1 - H.val % 2, by omega⟩ e) := by
  rw [sum_halves]
  obtain h | h : H.val % 2 = 0 ∨ H.val % 2 = 1 := by omega
  · simp only [h]; rfl
  · simp only [h]; rw [add_comm]; rfl

theorem narrow_own (hs : s.val = H.val % 2) : narrow H s e = Ref.col H e := Fin.ext (by simp only [narrow, Ref.col]; omega)

/-- The score in units of the logarithm of two. -/
theorem dot (q k : Vec Ideal S4x8192x512 .f32) (g : Vec Ideal S4x8192x8 .f32) (hq : ∀ i, Fin' (q i)) (hk : ∀ i, Fin' (k i))
    (hg : ∀ i, Fin' (Ref.cum (F := Ideal) g i)) :
    ∑ d : Fin 128, kaug (F := Ideal) k (gates (F := Ideal) g) (ix3 b n (aug H d)) * qaug (F := Ideal) q (gates (F := Ideal) g) (ix3 b t (aug H d))
      = ((lg : ℝ) : EReal) * Ref.raw q k (Ref.cum (F := Ideal) g) b H t n := by
  have hx : ∀ i, Fin' (gates (F := Ideal) g i) := fun i => by
    obtain ⟨r, hr⟩ := hg i
    exact ⟨r * lg, by rw [gates_apply, hr, EReal.coe_mul]⟩
  rw [sum_own H (fun a => kaug (F := Ideal) k (gates (F := Ideal) g) (ix3 b n a) * qaug (F := Ideal) q (gates (F := Ideal) g) (ix3 b t a))]
  simp only [qaug_apply _ _ _ _ _ q _ (hx _), kaug_apply _ _ _ _ _ k _ (hx _)]
  rw [Ref.raw]
  have h1 : ¬ (1 - H.val % 2 = H.val % 2) := by omega
  simp only [if_true, if_neg h1]
  rw [gates_dot]
  have hn : ∀ e, narrow H ⟨H.val % 2, by omega⟩ e = Ref.col H e := fun e => narrow_own H _ e rfl
  simp only [hn, gates_apply]
  choose q' hq' using hq
  choose k' hk' using hk
  choose g' hg' using hg
  simp only [hq', hk', hg', ← EReal.coe_mul, ← EReal.coe_sub]
  have cs : ∀ f : Fin 64 → ℝ, (∑ e, ((f e : ℝ) : EReal)) = ((∑ e, f e : ℝ) : EReal) := fun f =>
    (map_sum (⟨⟨Real.toEReal, EReal.coe_zero⟩, EReal.coe_add⟩ : ℝ →+ EReal) f Finset.univ).symm
  rw [cs, cs, ← EReal.coe_mul, ← EReal.coe_add, ← EReal.coe_add, ← EReal.coe_mul]
  congr 1
  rw [mul_add, Finset.sum_mul, Finset.mul_sum]
  congr 1
  · exact Finset.sum_congr rfl fun e _ => by ring
  · ring

/-- A head's own rows of the widened values, -/
theorem vaug_own (v : Vec Ideal S4x8192x512 .f32) (j : Fin 16) (d : Fin 64) (l : Fin 512) :
    vaug (F := Ideal) v (ix4 b j (tall H ⟨d.val, by omega⟩) l) = v (ix3 b ⟨512 * j.val + l.val, by omega⟩ (Ref.col H d)) := by
  rw [vaug, joined_apply, dif_pos d.isLt, turned_apply]
  exact congrArg (fun a => v (ix3 b _ a)) (Fin.ext (by simp only [Ref.col]; omega))

/-- and the one under them. -/
theorem vaug_one (v : Vec Ideal S4x8192x512 .f32) (j : Fin 16) (l : Fin 512) :
    vaug (F := Ideal) v (ix4 b j (tall H 64) l) = 1 := by
  rw [vaug, joined_apply, dif_neg (by decide), oneRow_apply]
  rfl

end Cert.Proof.Fox

end
-- ==== Proof.Blocks.lean ====
/-
  The blocks of a grid point, entry by entry in the arrays they are cut from: the point is a batch, a pair of heads and a tile
  of 512 queries.
-/
module

public import proofs.«01_k».proof.Proof.KernelRun
public import proofs.«01_k».proof.Proof.StepsAt
public import proofs.«01_k».proof.Proof.HostDot
public import Idealize.ShloMosaic.Lib.Pipeline.ValueKit.Geometry

@[expose] public section

set_option maxRecDepth 16384

noncomputable section

namespace Cert.Proof.Fox

open Cert.KernelIdeal Cert.KernelIdeal.Gen
open Idealize.ShloMosaic Idealize.ShloMosaic.TcCoe

/-- The point's batch, -/
def bat (t : Fin cfg0.N) : Fin 4 := cfg0.grid.coords t 0
/-- its pair of heads -/
def pr (t : Fin cfg0.N) : Fin 4 := cfg0.grid.coords t 1
/-- and its tile of queries. -/
def tile (t : Fin cfg0.N) : Fin 16 := cfg0.grid.coords t 2

theorem ind0 : ∀ t : Fin cfg0.N, (cfg0.win 0).index t 0 = (bat t).val ∧ (cfg0.win 0).index t 1 = (tile t).val ∧ (cfg0.win 0).index t 2 = (pr t).val := by decide +kernel
theorem ind1 : ∀ t : Fin cfg0.N, (cfg0.win 1).index t 0 = (bat t).val ∧ (cfg0.win 1).index t 1 = 0 ∧ (cfg0.win 1).index t 2 = (pr t).val := by decide +kernel
theorem ind2 : ∀ t : Fin cfg0.N, (cfg0.win 2).index t 0 = (bat t).val ∧ (cfg0.win 2).index t 1 = 0 ∧ (cfg0.win 2).index t 2 = (pr t).val ∧ (cfg0.win 2).index t 3 = 0 := by decide +kernel
theorem ind3 : ∀ t : Fin cfg0.N, (cfg0.win 3).index t 0 = (bat t).val ∧ (cfg0.win 3).index t 1 = (tile t).val ∧ (cfg0.win 3).index t 2 = (pr t).val := by decide +kernel

variable {F : FTy → Type} [FloatOps F] [Named F]
variable (m : (ℓ : Loc nD τ sig) → Buf (Elt F) ℓ) (c : Dev nD) (t : Fin cfg0.N)

/-- A head of the point's pair. -/
def hd (h : Fin 2) : Fin 8 := ⟨2 * (pr t).val + h.val, by omega⟩
/-- A query of the point's tile. -/
def qry (r : Fin 512) : Fin 8192 := ⟨512 * (tile t).val + r.val, by omega⟩

theorem iblk0_apply (r : Fin 512) (h : Fin 2) (d : Fin 128) :
    iblk m c 0 t (ix3 0 r (lane h d)) = (show Vec F S4x8192x1024 .bf16 from V m c main_v46) (ix3 (bat t) (qry t r) (aug (hd t h) d)) := by
  obtain ⟨e0, e1, e2⟩ := ind0 t
  blk_ext [iblk, e0, e1, e2, qry, aug, hd, lane]

theorem iblk1_apply (n : Fin 8192) (h : Fin 2) (d : Fin 128) :
    iblk m c 1 t (ix3 0 n (lane h d)) = (show Vec F S4x8192x1024 .bf16 from V m c main_v68) (ix3 (bat t) n (aug (hd t h) d)) := by
  obtain ⟨e0, e1, e2⟩ := ind1 t
  blk_ext [iblk, e0, e1, e2, aug, hd, lane]

theorem iblk2_apply (j : Fin 16) (h : Fin 2) (d : Fin 80) (l : Fin 512) :
    iblk m c 2 t (ix4 0 j (vrow h d) l) = (show Vec F S4x16x640x512 .bf16 from V m c main_v86) (ix4 (bat t) j (tall (hd t h) d) l) := by
  obtain ⟨e0, e1, e2, e3⟩ := ind2 t
  blk_ext [iblk, e0, e1, e2, e3, tall, hd, vrow]

end Cert.Proof.Fox

end
-- ==== Proof.Attn.lean ====
/-
  The idealised kernel's result is the reference's, for finite queries, keys and gates: block by block, each number the
  quotient of two sums that the reference's softmax spreads over the keys.
-/
module

public import proofs.«01_k».proof.Proof.Blocks

@[expose] public section

set_option maxRecDepth 16384

noncomputable section

namespace Cert.Proof.Fox

open Cert.KernelIdeal Cert.KernelIdeal.Gen
open Idealize.ShloMosaic Idealize.ShloMosaic.TcCoe
open Cert.Proof.Softmax (Fin' lg lg_pos top mass quotient)

/-- Sums over windows of reals are reals. -/
theorem window_real {s t u : Shape} (window strides lo hi : Fin s.rank → Nat) (x : FVec Ideal s .f32) (init : FVec Ideal u .f32)
    (h : s.ReduceWindows window strides lo hi t) (hu : 0 < u.numel) (hx : ∀ i, Fin' (x i)) (hi' : ∀ i, Fin' (init i)) (j : t.Idx) :
    Fin' (Host.reduceWindowAdd (F := Ideal) window strides lo hi x init h hu j) := by
  have fold : ∀ {ι : Type} (l : List ι) (f : ι → EReal) (y : EReal), (∀ n, Fin' (f n)) → Fin' y → Fin' (l.foldl (fun r n => r + f n) y) := by
    intro ι l f
    induction l with
    | nil => exact fun y _ hy => hy
    | cons a l ih => exact fun y hf hy => ih _ hf (hy.add (hf a))
  have pick : ∀ {p : Prop} {_ : Decidable p} (a : p → EReal) (b : EReal), (∀ h, Fin' (a h)) → Fin' b → Fin' (dite p a fun _ => b) := by
    intro p _ a b ha hb
    split_ifs with h
    · exact ha h
    · exact hb
  refine fold _ _ _ (fun n => ?_) (hi' _)
  exact pick _ _ (fun _ => hx _) (hi' _)

/-- A running sum of reals is a real. -/
theorem cum_real (g : Vec Ideal S4x8192x8 .f32) (hg : ∀ i, Fin' (g i)) (i : S4x8192x8.Idx) : Fin' (Ref.cum (F := Ideal) g i) :=
  window_real _ _ _ _ g _ _ _ hg (fun _ => ⟨0, Ideal.ofBits_zero_f32.trans EReal.coe_zero.symm⟩) i

variable (q k v : Vec Ideal S4x8192x512 .f32) (g : Vec Ideal S4x8192x8 .f32)
  (hq : ∀ i, Fin' (q i)) (hk : ∀ i, Fin' (k i)) (hg : ∀ i, Fin' (Ref.cum (F := Ideal) g i))

include hq hk hg in
/-- The reference's scores are reals. -/
theorem raw_real (b : Fin 4) (H : Fin 8) (t n : Fin 8192) : Fin' (Ref.raw q k (Ref.cum (F := Ideal) g) b H t n) := by
  choose q' hq' using hq
  choose k' hk' using hk
  choose g' hg' using hg
  unfold Ref.raw
  simp only [hq', hk', hg', ← EReal.coe_mul, ← EReal.coe_sub]
  have cs : ∀ f : Fin 64 → ℝ, (∑ e, ((f e : ℝ) : EReal)) = ((∑ e, f e : ℝ) : EReal) := fun f =>
    (map_sum (⟨⟨Real.toEReal, EReal.coe_zero⟩, EReal.coe_add⟩ : ℝ →+ EReal) f Finset.univ).symm
  rw [cs, ← EReal.coe_mul, ← EReal.coe_add]
  exact ⟨_, rfl⟩

variable (m : (ℓ : Loc nD τ sig) → Buf (Elt Ideal) ℓ) (c : Dev nD) (t : Fin cfg0.N)
  (h0 : m ((c : Thread nD τ).loc main_arg0) = q) (h1 : m ((c : Thread nD τ).loc main_arg1) = k)
  (h2 : m ((c : Thread nD τ).loc main_arg2) = v) (h3 : m ((c : Thread nD τ).loc main_arg3) = g)

include hq hk hg h0 h1 h3 in
theorem seenRow_eq (h : Fin 2) (r : Fin 512) :
    seenRow (iblk m c 0 t) (iblk m c 1 t) h r (tile t).val
      = fun n => ((lg : ℝ) : EReal) * Ref.score q k (Ref.cum (F := Ideal) g) (bat t) (hd t h) (qry t r) n := by
  funext n
  unfold seenRow Ref.score
  split_ifs with hn hn' hn'
  · rw [← dot (bat t) (qry t r) (Ref.key n) (hd t h) q k g hq hk hg]
    refine Finset.sum_congr rfl fun d _ => ?_
    rw [iblk0_apply, iblk1_apply, (V_all m c).1, (V_all m c).2.1, h0, h1, h3]
    rfl
  · exact absurd hn hn'
  · exact absurd hn' hn
  · rw [EReal.coe_mul_bot_of_pos lg_pos]

include h2 in
theorem val_own (h : Fin 2) (d : Fin 64) (n : ℕ) :
    val (iblk m c 2 t) h (⟨d.val, by omega⟩ : Fin 80) n = v (ix3 (bat t) (Ref.key n) (Ref.col (hd t h) d)) := by
  unfold val
  rw [iblk2_apply, (V_all m c).2.2, h2]
  refine (vaug_own _ _ v _ d _).trans ?_
  refine congrArg (fun a => v (ix3 (bat t) a (Ref.col (hd t h) d))) (Fin.ext ?_)
  show 512 * (n / 512 % 16) + n % 512 = n % 8192
  omega

theorem val_one (h : Fin 2) (n : ℕ) : val (iblk m c 2 t) h (64 : Fin 80) n = 1 := by
  unfold val
  rw [iblk2_apply, (V_all m c).2.2]
  exact vaug_one _ _ _ _ _

include hq hk hg h0 h1 h2 h3 in
/-- One number of a point's block. -/
theorem point_apply (h : Fin 2) (r : Fin 512) (d : Fin 64) :
    outBlk (F := Ideal) (tile t).val (iblk m c 0 t) (iblk m c 1 t) (iblk m c 2 t) (ix3 0 r (⟨64 * h.val + d.val, by omega⟩ : Fin 128))
      = Ref.out (F := Ideal) q k v g (ix3 (bat t) (qry t r) (Ref.col (hd t h) d)) := by
  have hS : ∀ n, Fin' (Ref.raw q k (Ref.cum (F := Ideal) g) (bat t) (hd t h) (qry t r) n) := raw_real q k g hq hk hg _ _ _
  rw [outBlk_apply _ _ _ _ _ _ (tile t).isLt, seenRow_eq q k g hq hk hg m c t h0 h1 h3, funext (val_own v m c t h2 h d), funext (val_one m c t h)]
  rw [quotient _ _ 8192 ?_ (qry t r).isLt ?_, Ref.out_apply]
  · intro n
    unfold Ref.score
    split_ifs
    · obtain ⟨x, hx⟩ := hS (Ref.key n); rw [hx]; exact EReal.coe_ne_top x
    · exact bot_ne_top
  · unfold Ref.score
    rw [if_pos le_rfl]
    obtain ⟨x, hx⟩ := hS (Ref.key (qry t r).val); rw [hx]; exact EReal.coe_ne_bot x

include hq hk hg h0 h1 h2 h3 in
/-- The result array. -/
theorem result : (dats m 0 c).arrAt 3 cfg0.N = Ref.out (F := Ideal) q k v g := by
  refine (dats m 0 c).arrAt_eq_of_covers 3 _ (by decide +kernel) fun t hf y => ?_
  obtain ⟨e0, e1, e2⟩ := ind3 t
  have key : ∀ (r : Fin 512) (a : Fin 128), outBlk (F := Ideal) (tile t).val (iblk m c 0 t) (iblk m c 1 t) (iblk m c 2 t) (ix3 0 r a)
      = Ref.out (F := Ideal) q k v g (ix3 (bat t) (qry t r) (⟨128 * (pr t).val + a.val, by omega⟩ : Fin 512)) := fun r a => by
    refine Eq.trans (congrArg _ (congrArg (ix3 0 r) (Fin.ext ?_))) ((point_apply q k v g hq hk hg m c t h0 h1 h2 h3 ⟨a.val / 64, by omega⟩ r ⟨a.val % 64, by omega⟩).trans
      (congrArg _ (congrArg (ix3 (bat t) (qry t r)) (Fin.ext ?_))))
    · show a.val = 64 * (a.val / 64) + a.val % 64
      omega
    · show (2 * (pr t).val + a.val / 64) * 64 + a.val % 64 = 128 * (pr t).val + a.val
      omega
  blk_simp
  rw [after0_3]
  obtain ⟨z, r, a, rfl⟩ : ∃ (z : Fin 1) (r : Fin 512) (a : Fin 128), y = ix3 z r a := ⟨y 0, y 1, y 2, eq_ix3 y⟩
  obtain rfl : z = 0 := Subsingleton.elim _ _
  refine (key r a).trans ?_
  blk_ext [e0, e1, e2, qry]

end Cert.Proof.Fox

end
-- ==== Proof.Finite.lean ====
/-
  The precondition read in the extended reals: an array whose absolute values are all below infinity is one of reals.
-/
module

public import proofs.«01_k».proof.Pre_finite
public import proofs.«01_k».proof.Proof.Softmax

@[expose] public section

noncomputable section

namespace Cert.Proof.Finite

open Idealize.ShloMosaic
open Cert.Proof.Softmax (Fin')

theorem facts : Cert.Pre_finite.Facts := ⟨by decide, by decide⟩

theorem ofBits_inf : Ideal.ofBits .f32 0x7F800000#32 = ⊤ := by
  simp [Ideal.ofBits, Ideal.ieee]

theorem real_of_abs (x : EReal) (h : Ideal.cmp .olt (max x (-x)) (Ideal.ofBits .f32 0x7F800000#32) = 1#1) : Fin' x := by
  rw [ofBits_inf] at h
  have hx : max x (-x) < ⊤ := by
    by_contra hn
    simp [Ideal.cmp, hn] at h
  induction x with
  | bot => simp at hx
  | top => simp at hx
  | coe r => exact ⟨r, rfl⟩

/-- An array below infinity in absolute value holds reals. -/
theorem reals {s : Shape} (x : FVec Ideal s .f32) (hb) (h : cmpf .olt (Host.absf x) (broadcastInDim s ![] hb (constant (F := Ideal) ⟨0, ![]⟩ .f32 0x7F800000#32)) = fun _ => 1#1)
    (i : s.Idx) : Fin' (x i) := real_of_abs _ (congrFun h i)

end Cert.Proof.Finite

end
-- ==== Proof.FfnBody.lean ====
/-
  The feed-forward kernel's body: what one point leaves in its block of the result, in the convolution's tail and in the
  scratch, as terms of the point's blocks.
-/
module

public import proofs.«01_k».proof.Proof.Gen.Kernel2Ideal.Frame
public import Idealize.ShloMosaic.Lib.Pipeline.ValueKit.Acc
public import Idealize.ShloMosaic.Lib.Pipeline.ValueKit.Tiles
public import Idealize.ShloMosaic.Lib.Pipeline.ReadBack

@[expose] public section

set_option maxRecDepth 16384

noncomputable section

namespace Cert.Proof.Ffn

open Cert.Kernel2Ideal Cert.Kernel2Ideal.Gen
open Idealize.ShloMosaic Idealize.ShloMosaic.TcCoe

variable {F : FTy → Type} [FloatOps F]

/-- The columns of the first weight that give the convolution's input. -/
def wu (w : Vec F S1024x5632 .bf16) : Vec F S1024x2816 .bf16 :=
  View.ld w (Rect.unit (s := S1024x5632) ![0, 0] S1024x2816.size inb_S1024x5632_S1024x2816_0_0)
/-- The columns that give the gate. -/
def wg (w : Vec F S1024x5632 .bf16) : Vec F S1024x2816 .bf16 :=
  View.ld w (Rect.unit (s := S1024x5632) ![0, 2816] S1024x2816.size inb_S1024x5632_S1024x2816_0_2816)
/-- The convolution's three taps. -/
def tap0 (w : Vec F S3x2816 .f32) : Vec F S1x2816 .f32 := View.ld w (Rect.unit (s := S3x2816) ![0, 0] S1x2816.size inb_S3x2816_S1x2816_0_0)
@[inherit_doc tap0] def tap1 (w : Vec F S3x2816 .f32) : Vec F S1x2816 .f32 := View.ld w (Rect.unit (s := S3x2816) ![1, 0] S1x2816.size inb_S3x2816_S1x2816_1_0)
@[inherit_doc tap0] def tap2 (w : Vec F S3x2816 .f32) : Vec F S1x2816 .f32 := View.ld w (Rect.unit (s := S3x2816) ![2, 0] S1x2816.size inb_S3x2816_S1x2816_2_0)
/-- The two rows kept from the tile before. -/
def old0 (s : Vec F S2x2816 .f32) : Vec F S1x2816 .f32 := View.ld s (Rect.unit (s := S2x2816) ![0, 0] S1x2816.size inb_S2x2816_S1x2816_0_0)
@[inherit_doc old0] def old1 (s : Vec F S2x2816 .f32) : Vec F S1x2816 .f32 := View.ld s (Rect.unit (s := S2x2816) ![1, 0] S1x2816.size inb_S2x2816_S1x2816_1_0)

/-- A tile of the convolution's input. -/
def up (x : Vec F S1x256x1024 .f32) (w : Vec F S1024x5632 .bf16) : FVec F S256x2816 .f32 := k0_pay5 x (wu w)
/-- A tile of the gated activation, from the rows `s` before it. -/
def act (x : Vec F S1x256x1024 .f32) (w : Vec F S1024x5632 .bf16) (cw : Vec F S3x2816 .f32) (cb : Vec F S1x2816 .f32) (s : Vec F S2x2816 .f32) : FVec F S256x2816 .f32 :=
  k0_pay12 (k0_pay6 x (wg w)) (iota .tc S256x2816 32 [0] iota_S256x2816_d0_w32) (k0_pay7 x (wu w) cb (tap2 cw) (old1 s) (tap1 cw)) (k0_pay8 x (wu w)) k0_pay9
    (old0 s) (old1 s) (tap0 cw)
/-- A tile of the result, from the rows `s` before it. -/
def tile (x : Vec F S1x256x1024 .f32) (w : Vec F S1024x5632 .bf16) (cw : Vec F S3x2816 .f32) (cb : Vec F S1x2816 .f32) (wd : Vec F S2816x1024 .bf16)
    (lw lb : Vec F S1x1024 .f32) (s : Vec F S2x2816 .f32) : FVec F S1x256x1024 .f32 :=
  k0_pay1 (act x w cw cb s) (k0_pay13 (k0_pay3 x)) wd lw lb

/-- A load of the scratch after one whole store reads what was stored. -/
theorem kept {sp : Space} (v : View sig .tc sp S2x2816 .f32) (P : Vec F S2x2816 .f32) (r : Rect S2x2816) :
    v.readCov [(⟨Rect.unit (s := S2x2816) ![0, 0] S2x2816.size inb_S2x2816_S2x2816_0_0, P⟩ : View.Piece (Elt F) S2x2816 .f32)] r.toLoadRect = View.ld P r := by
  rw [View.readCov_eq_canon', View.canon_unit_zero (funext fun a => by fin_cases a <;> rfl)]

variable (m : (ℓ : Loc nD τ sig) → Buf (Elt F) ℓ) (c : Dev nD) (t : Fin cfg0.N)

/-- The first tile of a batch. -/
theorem outs_first (h0 : t.val % 32 = 0) :
    (outsAt0 m c t.val t.isLt).1 = tile (iblk m c 0 t) (iblk m c 2 t) (iblk m c 3 t) (iblk m c 4 t) (iblk m c 5 t) (iblk m c 6 t) (iblk m c 7 t) (k0_pay2 (iblk m c 1 t)) := by
  have k0 : old0 (k0_pay2 (iblk m c 1 t)) = _ :=
    (kept (View.whole cc0_scratch0) (k0_pay2 (iblk m c 1 t)) (Rect.unit (s := S2x2816) ![0, 0] S1x2816.size inb_S2x2816_S1x2816_0_0)).symm
  have k1 : old1 (k0_pay2 (iblk m c 1 t)) = _ :=
    (kept (View.whole cc0_scratch0) (k0_pay2 (iblk m c 1 t)) (Rect.unit (s := S2x2816) ![1, 0] S1x2816.size inb_S2x2816_S1x2816_1_0)).symm
  rw [outsAt0_A m c t h0]
  frame_out
  unfold tile act
  rw [k0, k1]
  rfl
theorem outs_first' (h0 : t.val % 32 = 0) :
    (outsAt0 m c t.val t.isLt).2.1 = k0_pay11 (up (iblk m c 0 t) (iblk m c 2 t)) := by
  rw [outsAt0_A m c t h0]
  frame_out
  rfl
theorem outs_first'' (h0 : t.val % 32 = 0) :
    (outsAt0 m c t.val t.isLt).2.2 = k0_pay10 (up (iblk m c 0 t) (iblk m c 2 t)) := by
  rw [outsAt0_A m c t h0]
  frame_out
  rfl

/-- A later tile. -/
theorem outs_later (h0 : ¬ t.val % 32 = 0) :
    (outsAt0 m c t.val t.isLt).1 = tile (iblk m c 0 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2 := by
  rw [outsAt0_B m c t h0]
  frame_out
  exact Eq.trans (b := tile (iblk m c 0 t) (iblk m c 2 t) (iblk m c 3 t) (iblk m c 4 t) (iblk m c 5 t) (iblk m c 6 t) (iblk m c 7 t)
    (View.read (Elt F) (View.whole cc0_scratch0) ((Memref.isWhole_whole _).unread (outsAt0 m c (t.val - 1) (Nat.lt_of_le_of_lt (Nat.sub_le _ _) t.isLt)).2.2))) rfl
    (congrArg _ (read_unread_whole _ _ _))
theorem outs_later' (h0 : ¬ t.val % 32 = 0) :
    (outsAt0 m c t.val t.isLt).2.1 = k0_pay11 (up (iblk m c 0 t) (iblk m c 2 t)) := by
  rw [outsAt0_B m c t h0]
  frame_out
  rfl
theorem outs_later'' (h0 : ¬ t.val % 32 = 0) :
    (outsAt0 m c t.val t.isLt).2.2 = k0_pay10 (up (iblk m c 0 t) (iblk m c 2 t)) := by
  rw [outsAt0_B m c t h0]
  frame_out
  rfl

end Cert.Proof.Ffn

end
-- ==== Proof.FfnSpec.lean ====
/-
  The arithmetic of the feed-forward part on one number or one row: the smooth activation and the normalisation of a row.
-/
module

public import Idealize.ShloMosaic.PureOps.Ideal

@[expose] public section

noncomputable section

namespace Cert.Proof.FfnSpec

open Idealize.ShloMosaic

/-- The activation `y/2 (1 + tanh (√(2/π) (y + 0.044715 y³)))`. -/
def gelu (y : EReal) : EReal :=
  y * (Ideal.ofBits .f32 0x3F000000#32 * (1 + Ideal.tanh (Ideal.ofBits .f32 0x3F4C422A#32 * (y + Ideal.ofBits .f32 0x3D372713#32 * (y * y * y)))))
/-- The mean of a row. -/
def mean (z : Fin 1024 → EReal) : EReal := Ideal.div (∑ d, z d) (Ideal.ofBits .f32 0x44800000#32)
/-- The row less its mean, divided by its deviation, scaled and shifted. -/
def norm (z : Fin 1024 → EReal) (d : Fin 1024) (w b : EReal) : EReal :=
  (z d - mean z) * Ideal.rsqrt (mean (fun e => (z e - mean z) * (z e - mean z)) + Ideal.ofBits .f32 0x3727C5AC#32) * w + b
/-- The convolution of three numbers, its bias first. -/
def conv (b w0 w1 w2 u0 u1 u2 : EReal) : EReal := b + (w0 * u0 + w1 * u1 + w2 * u2)
/-- The same, last tap first. -/
theorem conv_comm (b w0 w1 w2 u0 u1 u2 : EReal) : b + w2 * u2 + w1 * u1 + w0 * u0 = conv b w0 w1 w2 u0 u1 u2 := by
  unfold conv
  rw [add_assoc, add_assoc, add_comm (w2 * u2), add_comm (w1 * u1) (w0 * u0)]

end Cert.Proof.FfnSpec

end
-- ==== Proof.FfnAt.lean ====
/-
  A tile of the feed-forward kernel number by number.
-/
module

public import proofs.«01_k».proof.Proof.FfnBody
public import proofs.«01_k».proof.Proof.FfnSpec
public import Idealize.ShloMosaic.Lib.Pointwise
public import Idealize.ShloMosaic.Lib.WordCmp

@[expose] public section

set_option maxRecDepth 16384

noncomputable section

namespace Cert.Proof.Ffn

open Cert.Kernel2Ideal Cert.Kernel2Ideal.Gen
open Idealize.ShloMosaic Idealize.ShloMosaic.WordCmp

variable (x : Vec Ideal S1x256x1024 .f32) (w : Vec Ideal S1024x5632 .bf16) (cw : Vec Ideal S3x2816 .f32) (cb : Vec Ideal S1x2816 .f32) (wd : Vec Ideal S2816x1024 .bf16)
  (lw lb : Vec Ideal S1x1024 .f32) (s : Vec Ideal S2x2816 .f32) (b : Vec Ideal S1x2x2816 .f32) (r : Fin 256) (f : Fin 2816) (d k : Fin 1024)

theorem wu_apply : wu (F := Ideal) w (ix2 k f) = w (ix2 k ⟨f.val, by omega⟩) :=
  View.ld_unit_apply_of w _ _ _ _ _ fun a => by fin_cases a <;> simp [ix2]
theorem wg_apply : wg (F := Ideal) w (ix2 k f) = w (ix2 k ⟨2816 + f.val, by omega⟩) :=
  View.ld_unit_apply_of w _ _ _ _ _ fun a => by fin_cases a <;> simp [ix2]
theorem tap0_apply : tap0 (F := Ideal) cw (ix2 0 f) = cw (ix2 0 f) :=
  View.ld_unit_apply_of cw _ _ _ _ _ fun a => by fin_cases a <;> simp [ix2]
theorem tap1_apply : tap1 (F := Ideal) cw (ix2 0 f) = cw (ix2 1 f) :=
  View.ld_unit_apply_of cw _ _ _ _ _ fun a => by fin_cases a <;> simp [ix2]
theorem tap2_apply : tap2 (F := Ideal) cw (ix2 0 f) = cw (ix2 2 f) :=
  View.ld_unit_apply_of cw _ _ _ _ _ fun a => by fin_cases a <;> simp [ix2]
theorem old0_apply : old0 (F := Ideal) s (ix2 0 f) = s (ix2 0 f) :=
  View.ld_unit_apply_of s _ _ _ _ _ fun a => by fin_cases a <;> simp [ix2]
theorem old1_apply : old1 (F := Ideal) s (ix2 0 f) = s (ix2 1 f) :=
  View.ld_unit_apply_of s _ _ _ _ _ fun a => by fin_cases a <;> simp [ix2]

theorem first_apply (j : Fin 2) : k0_pay2 (F := Ideal) b (ix2 j f) = b (ix3 0 j f) := by
  pointwise [k0_pay2]
theorem tail_apply (u : FVec Ideal S256x2816 .f32) (j : Fin 2) : k0_pay10 (F := Ideal) u (ix2 j f) = u (ix2 ⟨254 + j.val, by omega⟩ f) := by
  pointwise [k0_pay10]
theorem tail_apply' (u : FVec Ideal S256x2816 .f32) (j : Fin 2) : k0_pay11 (F := Ideal) u (ix3 0 j f) = u (ix2 ⟨254 + j.val, by omega⟩ f) := by
  pointwise [k0_pay11]
theorem up_apply : up (F := Ideal) x w (ix2 r f) = ∑ k : Fin 1024, x (ix3 0 r k) * w (ix2 k ⟨f.val, by omega⟩) := by
  simp only [← wu_apply]
  unfold up
  generalize wu w = w'
  pointwise [k0_pay5, k0_pay4, k0_pay3]
theorem gate_apply : k0_pay6 (F := Ideal) x (wg w) (ix2 r f) = ∑ k : Fin 1024, x (ix3 0 r k) * w (ix2 k ⟨2816 + f.val, by omega⟩) := by
  simp only [← wg_apply]
  generalize wg w = w'
  pointwise [k0_pay6, k0_pay4, k0_pay3]

theorem near_apply (c1 c2 o1 : Vec Ideal S1x2816 .f32) (w' : Vec Ideal S1024x2816 .bf16) :
    k0_pay7 (F := Ideal) x w' cb c2 o1 c1 (ix2 r f) = cb (ix2 0 f) + c2 (ix2 0 f) * k0_pay5 x w' (ix2 r f)
      + c1 (ix2 0 f) * Scalar.select (IntOp.cmpi CmpIPredicate.eq (BitVec.ofNat 32 r.val) 0#32) (o1 (ix2 0 f))
        (k0_pay5 x w' (ix2 ⟨(r.val + 256 - 1) % 256, by omega⟩ f)) := by
  unfold k0_pay7
  generalize k0_pay5 x w' = u
  pointwise []
theorem far_apply (w' : Vec Ideal S1024x2816 .bf16) :
    k0_pay8 (F := Ideal) x w' (ix2 r f) = k0_pay5 x w' (ix2 ⟨(r.val + 256 - 2) % 256, by omega⟩ f) := by
  unfold k0_pay8
  generalize k0_pay5 x w' = u
  pointwise []
theorem flag_apply : k0_pay9 (ix2 r f) = IntOp.cmpi CmpIPredicate.eq (BitVec.ofNat 32 r.val) 0#32 := by
  pointwise [k0_pay9]
theorem hid_apply (v11 : FVec Ideal S256x2816 .f32) (v12 : IVec S256x2816 32) (v30 : FVec Ideal S256x2816 .f32) (v31 : FVec Ideal S256x2816 .f32) (v33 : IVec S256x2816 1) (v34 v40 v44 : Vec Ideal S1x2816 .f32) :
    k0_pay12 (F := Ideal) v11 v12 v30 v31 v33 v34 v40 v44 (ix2 r f) = FfnSpec.gelu (v30 (ix2 r f) + v44 (ix2 0 f) *
      Scalar.select (IntOp.cmpi .eq (v12 (ix2 r f)) 1#32) (v40 (ix2 0 f)) (Scalar.select (v33 (ix2 r f)) (v34 (ix2 0 f)) (v31 (ix2 r f)))) * v11 (ix2 r f) := by
  pointwise [k0_pay12, FfnSpec.gelu]
theorem norm_apply (h : FVec Ideal S256x2816 .f32) (y : FVec Ideal S256x1024 .f32) :
    k0_pay1 (F := Ideal) h y wd lw lb (ix3 0 r d)
      = FfnSpec.norm (fun e => y (ix2 r e) + ∑ k : Fin 2816, h (ix2 r k) * wd (ix2 k e)) d (lw (ix2 0 d)) (lb (ix2 0 d)) := by
  pointwise [k0_pay1, FfnSpec.norm, FfnSpec.mean]
theorem twice_apply (y : FVec Ideal S256x1024 .f32) : k0_pay13 (F := Ideal) y (ix2 r d) = Ideal.ofBits .f32 0x3FB504F3#32 * y (ix2 r d) := by
  pointwise [k0_pay13]
theorem x_apply : k0_pay3 (F := Ideal) x (ix2 r d) = x (ix3 0 r d) := by
  pointwise [k0_pay3]

/-- Picking by a row's number. -/
theorem pick (n : ℕ) (hn : n < 256) (p q : EReal) :
    Scalar.select (IntOp.cmpi .eq (BitVec.ofNat 32 r.val) (BitVec.ofNat 32 n)) p q = if r.val = n then p else q := by
  have hr := r.isLt
  by_cases h : r.val = n
  · rw [if_pos h, h, cmpi_eq_eq]
    simp [Scalar.select]
  · rw [if_neg h, cmpi_eq_eq, decide_eq_false (fun e => h ((ofNat_eq_ofNat_iff (by omega) (by omega)).1 e))]
    simp [Scalar.select]

/-- The hidden rows: with the two rows before the tile first, row `r` is convolved from rows `r`, `r + 1`, `r + 2`. -/
theorem act_apply (P : ℕ → EReal) (hu : ∀ r : Fin 256, up (F := Ideal) x w (ix2 r f) = P (r.val + 2)) (h0 : s (ix2 0 f) = P 0) (h1 : s (ix2 1 f) = P 1) :
    act (F := Ideal) x w cw cb s (ix2 r f) = FfnSpec.gelu (FfnSpec.conv (cb (ix2 0 f)) (cw (ix2 0 f)) (cw (ix2 1 f)) (cw (ix2 2 f)) (P r.val) (P (r.val + 1)) (P (r.val + 2)))
      * ∑ k : Fin 1024, x (ix3 0 r k) * w (ix2 k ⟨2816 + f.val, by omega⟩) := by
  have hi : iota .tc S256x2816 32 [0] iota_S256x2816_d0_w32 (ix2 r f) = BitVec.ofNat 32 r.val := by pointwise []
  have hr := r.isLt
  unfold up at hu
  unfold act
  rw [hid_apply, gate_apply, near_apply, far_apply, flag_apply, hi, tap0_apply, tap1_apply, tap2_apply, old0_apply, old1_apply,
    pick r 0 (by omega), pick r 0 (by omega), pick r 1 (by omega), hu, hu, hu, h0, h1, ← FfnSpec.conv_comm]
  simp only []
  rcases Nat.lt_trichotomy r.val 1 with h | h | h
  · have e : r.val = 0 := by omega
    simp [e]
  · simp [h]
  · rw [if_neg (by omega), if_neg (by omega), if_neg (by omega), show (r.val + 256 - 1) % 256 + 2 = r.val + 1 by omega, show (r.val + 256 - 2) % 256 + 2 = r.val by omega]

/-- The tile's rows. -/
theorem tile_apply : tile (F := Ideal) x w cw cb wd lw lb s (ix3 0 r d)
    = FfnSpec.norm (fun e => Ideal.ofBits .f32 0x3FB504F3#32 * x (ix3 0 r e) + ∑ k : Fin 2816, act x w cw cb s (ix2 r k) * wd (ix2 k e)) d (lw (ix2 0 d)) (lb (ix2 0 d)) := by
  unfold tile
  rw [norm_apply]
  simp only [twice_apply, x_apply]

end Cert.Proof.Ffn

end
-- ==== Proof.FfnRef.lean ====
/-
  The feed-forward reference in stages: the convolution's padded input and the gate, the convolution, the gated activation,
  the residual sum and its normalisation (`out_eq`), and each stage number by number.
-/
module

public import proofs.«01_k».proof.Proof.Gen.Reference2Ideal.Run
public import proofs.«01_k».proof.Proof.FfnSpec
public import Idealize.ShloMosaic.Lib.Pointwise

@[expose] public section

set_option maxRecDepth 16384

noncomputable section

namespace Cert.Proof.FfnRef

open Cert.Reference2Ideal Cert.Reference2Ideal.Gen Cert.Reference2Ideal.Value
open Idealize.ShloMosaic Idealize.ShloMosaic.TcCoe Idealize.SL.Sem Idealize.ShloMosaic.StableHlo

variable {F : FTy → Type} [FloatOps F]

/-- The first product. -/
def prod (x : FVec F S4x8192x1024 .f32) (w : FVec F S1024x5632 .f32) : FVec F S4x8192x5632 .f32 :=
  Host.dotGeneral dot_S4x8192x1024_S1024x5632_S4x8192x5632_2_0_01_1_n_n none x w
/-- The convolution's input after the two buffered rows. -/
def upad (x : FVec F S4x8192x1024 .f32) (b : FVec F S4x2x2816 .f32) (w : FVec F S1024x5632 .f32) : FVec F S4x8194x2816 .f32 :=
  concatenate S4x8194x2816 1 [⟨S4x2x2816, b⟩, ⟨S4x8192x2816, extractStridedSlice S4x8192x2816 ![0, 0, 0] (prod x w) slices_S4x8192x5632_S4x8192x2816_0_0_0⟩]
    concatenates_S4x2x2816_S4x8192x2816_S4x8194x2816_d1
/-- The gate. -/
def gate (x : FVec F S4x8192x1024 .f32) (w : FVec F S1024x5632 .f32) : FVec F S4x8192x2816 .f32 :=
  extractStridedSlice S4x8192x2816 ![0, 0, 2816] (prod x w) slices_S4x8192x5632_S4x8192x2816_0_0_2816
/-- A row of 2816 numbers for every token. -/
def wide (v : FVec F S2816 .f32) : FVec F S4x8192x2816 .f32 :=
  broadcastInDim S4x8192x2816 ![0, 1, 2] bcast_S1x1x2816_S4x8192x2816_0_1_2 (broadcastInDim S1x1x2816 ![2] bcast_S2816_S1x1x2816_2 v)
/-- A row of 1024 numbers for every token. -/
def wide' (v : FVec F S1024 .f32) : FVec F S4x8192x1024 .f32 :=
  broadcastInDim S4x8192x1024 ![0, 1, 2] bcast_S1x1x1024_S4x8192x1024_0_1_2 (broadcastInDim S1x1x1024 ![2] bcast_S1024_S1x1x1024_2 v)
/-- One number everywhere. -/
def num (b : BitVec 32) : FVec F S4x8192x2816 .f32 := broadcastInDim S4x8192x2816 ![] bcast_S_S4x8192x2816 (constant S_ .f32 b)
/-- The convolution. -/
def conv (p : FVec F S4x8194x2816 .f32) (cw : FVec F S3x2816 .f32) (cb : FVec F S2816 .f32) : FVec F S4x8192x2816 .f32 :=
  addf (wide cb) (addf (addf (addf (num 0x00000000#32)
    (mulf (wide (shapeCast _ (extractStridedSlice S1x2816 ![0, 0] cw slices_S3x2816_S1x2816_0_0) shapeCasts_S1x2816_S2816))
      (extractStridedSlice S4x8192x2816 ![0, 0, 0] p slices_S4x8194x2816_S4x8192x2816_0_0_0)))
    (mulf (wide (shapeCast _ (extractStridedSlice S1x2816 ![1, 0] cw slices_S3x2816_S1x2816_1_0) shapeCasts_S1x2816_S2816))
      (extractStridedSlice S4x8192x2816 ![0, 1, 0] p slices_S4x8194x2816_S4x8192x2816_0_1_0)))
    (mulf (wide (shapeCast _ (extractStridedSlice S1x2816 ![2, 0] cw slices_S3x2816_S1x2816_2_0) shapeCasts_S1x2816_S2816))
      (extractStridedSlice S4x8192x2816 ![0, 2, 0] p slices_S4x8194x2816_S4x8192x2816_0_2_0)))
/-- The gated activation. -/
def act (y g : FVec F S4x8192x2816 .f32) : FVec F S4x8192x2816 .f32 :=
  mulf (mulf y (mulf (num 0x3F000000#32) (addf (num 0x3F800000#32) (Host.tanh (mulf (num 0x3F4C422A#32) (addf y (mulf (num 0x3D372713#32) (mulf (mulf y y) y)))))))) g
/-- The residual sum. -/
def res (x : FVec F S4x8192x1024 .f32) (h : FVec F S4x8192x2816 .f32) (w : FVec F S2816x1024 .f32) : FVec F S4x8192x1024 .f32 :=
  addf (mulf (broadcastInDim S4x8192x1024 ![] bcast_S_S4x8192x1024 (constant S_ .f32 0x3FB504F3#32)) x)
    (Host.dotGeneral dot_S4x8192x2816_S2816x1024_S4x8192x1024_2_0_01_1_n_n none h w)
/-- The mean over the features. -/
def mean (z : FVec F S4x8192x1024 .f32) : FVec F S4x8192x1 .f32 :=
  Host.divf (broadcastInDim S4x8192x1 ![0, 1] bcast_S4x8192_S4x8192x1_0_1 (Host.reduceAdd z (constant S_ .f32 0x00000000#32) reducesTo_S4x8192x1024_S4x8192_d2 h_S_))
    (broadcastInDim S4x8192x1 ![] bcast_S_S4x8192x1 (constant S_ .f32 0x44800000#32))
/-- One number per token for all its features. -/
def along (v : FVec F S4x8192x1 .f32) : FVec F S4x8192x1024 .f32 := broadcastInDim S4x8192x1024 ![0, 1, 2] bcast_S4x8192x1_S4x8192x1024_0_1_2 v
/-- The normalisation. -/
def norm (z : FVec F S4x8192x1024 .f32) (lw lb : FVec F S1024 .f32) : FVec F S4x8192x1024 .f32 :=
  addf (mulf (mulf (subf z (along (mean z))) (along (Host.rsqrt (addf (mean (mulf (subf z (along (mean z))) (subf z (along (mean z)))))
    (broadcastInDim S4x8192x1 ![] bcast_S_S4x8192x1 (constant S_ .f32 0x3727C5AC#32)))))) (wide' lw)) (wide' lb)
/-- The result. -/
def out (a0 : FVec F S4x8192x1024 .f32) (a1 : FVec F S4x2x2816 .f32) (a2 : FVec F S1024x5632 .f32) (a3 : FVec F S3x2816 .f32) (a4 : FVec F S2816 .f32)
    (a5 : FVec F S2816x1024 .f32) (a6 a7 : FVec F S1024 .f32) : FVec F S4x8192x1024 .f32 :=
  norm (res a0 (act (conv (upad a0 a1 a2) a3 a4) (gate a0 a2)) a5) a6 a7
/-- The rows for the next call. -/
def last (a0 : FVec F S4x8192x1024 .f32) (a1 : FVec F S4x2x2816 .f32) (a2 : FVec F S1024x5632 .f32) : FVec F S4x2x2816 .f32 :=
  extractStridedSlice S4x2x2816 ![0, 8192, 0] (upad a0 a1 a2) slices_S4x8194x2816_S4x2x2816_0_8192_0

set_option maxHeartbeats 4000000 in
theorem out_eq (m : (ℓ : Loc nD τ sig) → Buf (Elt F) ℓ) (c : Dev nD) : res_out0 m c = out (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold res_out0 res_main_v70 out norm mean along wide' res act conv num wide upad gate prod
  rfl

section
variable (x : FVec Ideal S4x8192x1024 .f32) (bf : FVec Ideal S4x2x2816 .f32) (w : FVec Ideal S1024x5632 .f32) (cw : FVec Ideal S3x2816 .f32) (cb : FVec Ideal S2816 .f32)
  (wd : FVec Ideal S2816x1024 .f32) (lw lb : FVec Ideal S1024 .f32) (p : FVec Ideal S4x8194x2816 .f32) (y g h : FVec Ideal S4x8192x2816 .f32) (z : FVec Ideal S4x8192x1024 .f32)
  (b : Fin 4) (t : Fin 8192) (f : Fin 2816) (d : Fin 1024)

theorem prod_apply (e : Fin 5632) : prod (F := Ideal) x w (ix3 b t e) = ∑ k : Fin 1024, x (ix3 b t k) * w (ix2 k e) := by
  pointwise [prod]
theorem gate_apply : gate (F := Ideal) x w (ix3 b t f) = ∑ k : Fin 1024, x (ix3 b t k) * w (ix2 k ⟨2816 + f.val, by omega⟩) := by
  refine Eq.trans ?_ (prod_apply x w b t _)
  pointwise [gate]
theorem upad_old (n : Fin 8194) (r : Fin 2) (e : n.val = r.val) : upad (F := Ideal) x bf w (ix3 b n f) = bf (ix3 b r f) := by
  have hr := r.isLt
  pointwise [upad]
  rw [dif_pos (by omega)]
  exact congrArg (fun q => bf (ix3 b q f)) (Fin.ext e)
theorem upad_new (n : Fin 8194) (e : n.val = t.val + 2) : upad (F := Ideal) x bf w (ix3 b n f) = ∑ k : Fin 1024, x (ix3 b t k) * w (ix2 k ⟨f.val, by omega⟩) := by
  refine Eq.trans ?_ (prod_apply x w b t _)
  pointwise [upad]
  rw [dif_neg (by omega)]
  exact congrArg (fun q => prod x w (ix3 b q _)) (Fin.ext (by simp only []; omega))
theorem conv_apply (n0 n1 n2 : Fin 8194) (e0 : n0.val = t.val) (e1 : n1.val = t.val + 1) (e2 : n2.val = t.val + 2) :
    conv (F := Ideal) p cw cb (ix3 b t f) = FfnSpec.conv (cb (ix1 f)) (cw (ix2 0 f)) (cw (ix2 1 f)) (cw (ix2 2 f)) (p (ix3 b n0 f)) (p (ix3 b n1 f)) (p (ix3 b n2 f)) := by
  have ht := t.isLt
  have l0 : t.val < 8194 := by omega
  have l1 : 1 + t.val < 8194 := by omega
  have l2 : 2 + t.val < 8194 := by omega
  rw [show n0 = ⟨t.val, l0⟩ from Fin.ext e0, show n1 = ⟨1 + t.val, l1⟩ from Fin.ext (e1.trans (Nat.add_comm _ _)),
    show n2 = ⟨2 + t.val, l2⟩ from Fin.ext (e2.trans (Nat.add_comm _ _))]
  pointwise [conv, wide, num, FfnSpec.conv]
theorem act_apply : act (F := Ideal) y g (ix3 b t f) = FfnSpec.gelu (y (ix3 b t f)) * g (ix3 b t f) := by
  pointwise [act, num, FfnSpec.gelu]
theorem res_apply : res (F := Ideal) x h wd (ix3 b t d) = Ideal.ofBits .f32 0x3FB504F3#32 * x (ix3 b t d) + ∑ k : Fin 2816, h (ix3 b t k) * wd (ix2 k d) := by
  pointwise [res]
theorem mean_apply : mean (F := Ideal) z (ix3 b t 0) = FfnSpec.mean fun d => z (ix3 b t d) := by
  pointwise [mean, FfnSpec.mean]
theorem centred_apply : subf (F := Ideal) z (along (mean z)) (ix3 b t d) = z (ix3 b t d) - FfnSpec.mean fun d => z (ix3 b t d) := by
  rw [← mean_apply]
  pointwise [along]
theorem norm_apply : norm (F := Ideal) z lw lb (ix3 b t d) = FfnSpec.norm (fun d => z (ix3 b t d)) d (lw (ix1 d)) (lb (ix1 d)) := by
  have e : mean (mulf (subf z (along (mean z))) (subf z (along (mean z)))) (ix3 b t 0)
      = FfnSpec.mean fun e => (z (ix3 b t e) - FfnSpec.mean fun d => z (ix3 b t d)) * (z (ix3 b t e) - FfnSpec.mean fun d => z (ix3 b t d)) := by
    rw [mean_apply]
    refine congrArg _ (funext fun e => ?_)
    rw [← centred_apply z b t e]
    rfl
  unfold norm FfnSpec.norm
  rw [← e, ← centred_apply z b t d]
  generalize mean (mulf (subf z (along (mean z))) (subf z (along (mean z)))) = q
  generalize subf z (along (mean z)) = q'
  pointwise [along, wide']
theorem last_apply (r : Fin 2) : last (F := Ideal) x bf w (ix3 b r f) = upad (F := Ideal) x bf w (ix3 b ⟨8192 + r.val, by omega⟩ f) := by
  pointwise [last]
end

/-- Every execution ends, with its results, its arguments as they were and every semaphore counter at zero. -/
theorem run_out (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_v70) = out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
        ∧ r.2.mem ((c.tc : Thread nD τ).loc main_v71) = last (m ((c.tc : Thread nD τ).loc main_arg0)) (m ((c.tc : Thread nD τ).loc main_arg1))
            (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => ⟨(h c).1.trans (out_eq m c), (h c).2.1.trans (by unfold last upad prod; rfl), (h c).2.2⟩,
    sem_eq_zero_of_no_sems (by decide) r.2⟩) (run m ρ)

end Cert.Proof.FfnRef

end
-- ==== Proof.FfnRes.lean ====
/-
  The feed-forward kernel's arrays: the blocks of a grid point entry by entry in the arguments, the two rows carried from a tile
  to the next, and the two results, equal to the reference's.
-/
module

public import proofs.«01_k».proof.Proof.FfnAt
public import proofs.«01_k».proof.Proof.FfnRef
public import proofs.«01_k».proof.Proof.Gen.Kernel2Ideal.Value
public import Idealize.ShloMosaic.Lib.Pipeline.ValueKit.Geometry

@[expose] public section

set_option maxRecDepth 16384

noncomputable section

namespace Cert.Proof.Ffn

open Cert.Kernel2Ideal Cert.Kernel2Ideal.Gen
open Idealize.ShloMosaic Idealize.ShloMosaic.StableHlo Idealize.ShloMosaic.TcCoe

/-- The point's batch -/
def bat (t : Fin cfg0.N) : Fin 4 := cfg0.grid.coords t 0
/-- and its tile of tokens. -/
def til (t : Fin cfg0.N) : Fin 32 := cfg0.grid.coords t 1

theorem coords_eq : ∀ t : Fin cfg0.N, (bat t).val = t.val / 32 ∧ (til t).val = t.val % 32 := by decide +kernel
theorem ind0 : ∀ t : Fin cfg0.N, (cfg0.win 0).index t 0 = (bat t).val ∧ (cfg0.win 0).index t 1 = (til t).val ∧ (cfg0.win 0).index t 2 = 0 := by decide +kernel
theorem ind1 : ∀ t : Fin cfg0.N, (cfg0.win 1).index t 0 = (bat t).val ∧ (cfg0.win 1).index t 1 = 0 ∧ (cfg0.win 1).index t 2 = 0 := by decide +kernel
theorem ind2 : ∀ t : Fin cfg0.N, (cfg0.win 2).index t 0 = 0 ∧ (cfg0.win 2).index t 1 = 0 := by decide +kernel
theorem ind3 : ∀ t : Fin cfg0.N, (cfg0.win 3).index t 0 = 0 ∧ (cfg0.win 3).index t 1 = 0 := by decide +kernel
theorem ind4 : ∀ t : Fin cfg0.N, (cfg0.win 4).index t 0 = 0 ∧ (cfg0.win 4).index t 1 = 0 := by decide +kernel
theorem ind5 : ∀ t : Fin cfg0.N, (cfg0.win 5).index t 0 = 0 ∧ (cfg0.win 5).index t 1 = 0 := by decide +kernel
theorem ind6 : ∀ t : Fin cfg0.N, (cfg0.win 6).index t 0 = 0 ∧ (cfg0.win 6).index t 1 = 0 := by decide +kernel
theorem ind7 : ∀ t : Fin cfg0.N, (cfg0.win 7).index t 0 = 0 ∧ (cfg0.win 7).index t 1 = 0 := by decide +kernel

/-- A token of the point's tile. -/
def tok (t : Fin cfg0.N) (r : Fin 256) : Fin 8192 := ⟨256 * (til t).val + r.val, by omega⟩

section
variable {F : FTy → Type} [FloatOps F] (m : (ℓ : Loc nD τ sig) → Buf (Elt F) ℓ) (c : Dev nD)

/-! ## What the host leaves -/

theorem host_up : V m c main_v0 = truncf .bf16 (m ((c.tc : Thread nD τ).loc main_arg2)) bitsLt_bf16_f32 := by
  simp only [V, hostOps0]; after_results; all_goals rfl
theorem host_cb : V m c main_v1 = shapeCast S1x2816 (m ((c.tc : Thread nD τ).loc main_arg4)) shapeCasts_S2816_S1x2816 := by
  simp only [V, hostOps0]; after_results; all_goals rfl
theorem host_down : V m c main_v2 = truncf .bf16 (m ((c.tc : Thread nD τ).loc main_arg5)) bitsLt_bf16_f32 := by
  simp only [V, hostOps0]; after_results; all_goals rfl
theorem host_lw : V m c main_v3 = shapeCast S1x1024 (m ((c.tc : Thread nD τ).loc main_arg6)) shapeCasts_S1024_S1x1024 := by
  simp only [V, hostOps0]; after_results; all_goals rfl
theorem host_lb : V m c main_v4 = shapeCast S1x1024 (m ((c.tc : Thread nD τ).loc main_arg7)) shapeCasts_S1024_S1x1024 := by
  simp only [V, hostOps0]; after_results; all_goals rfl

/-! ## The blocks -/

variable (t : Fin cfg0.N)

theorem iblk0_apply (r : Fin 256) (k : Fin 1024) :
    iblk m c 0 t (ix3 0 r k) = (show Vec F S4x8192x1024 .f32 from V m c main_arg0) (ix3 (bat t) (tok t r) k) := by
  obtain ⟨e0, e1, e2⟩ := ind0 t
  blk_ext [iblk, e0, e1, e2, tok]
theorem iblk1_apply (j : Fin 2) (f : Fin 2816) :
    iblk m c 1 t (ix3 0 j f) = (show Vec F S4x2x2816 .f32 from V m c main_arg1) (ix3 (bat t) j f) := by
  obtain ⟨e0, e1, e2⟩ := ind1 t
  blk_ext [iblk, e0, e1, e2]
theorem iblk2_apply (k : Fin 1024) (e : Fin 5632) :
    iblk m c 2 t (ix2 k e) = (show Vec F S1024x5632 .bf16 from V m c main_v0) (ix2 k e) := by
  obtain ⟨e0, e1⟩ := ind2 t
  blk_ext [iblk, e0, e1]
theorem iblk3_apply (j : Fin 3) (f : Fin 2816) :
    iblk m c 3 t (ix2 j f) = (show Vec F S3x2816 .f32 from V m c main_arg3) (ix2 j f) := by
  obtain ⟨e0, e1⟩ := ind3 t
  blk_ext [iblk, e0, e1]
theorem iblk4_apply (f : Fin 2816) :
    iblk m c 4 t (ix2 0 f) = (show Vec F S1x2816 .f32 from V m c main_v1) (ix2 0 f) := by
  obtain ⟨e0, e1⟩ := ind4 t
  blk_ext [iblk, e0, e1]
theorem iblk5_apply (k : Fin 2816) (d : Fin 1024) :
    iblk m c 5 t (ix2 k d) = (show Vec F S2816x1024 .bf16 from V m c main_v2) (ix2 k d) := by
  obtain ⟨e0, e1⟩ := ind5 t
  blk_ext [iblk, e0, e1]
theorem iblk6_apply (d : Fin 1024) :
    iblk m c 6 t (ix2 0 d) = (show Vec F S1x1024 .f32 from V m c main_v3) (ix2 0 d) := by
  obtain ⟨e0, e1⟩ := ind6 t
  blk_ext [iblk, e0, e1]
theorem iblk7_apply (d : Fin 1024) :
    iblk m c 7 t (ix2 0 d) = (show Vec F S1x1024 .f32 from V m c main_v4) (ix2 0 d) := by
  obtain ⟨e0, e1⟩ := ind7 t
  blk_ext [iblk, e0, e1]
end

/-! ## The results -/

section
variable (m : (ℓ : Loc nD τ sig) → Buf (Elt Ideal) ℓ) (c : Dev nD)

/-- The arguments: tokens, rows of the call before, the wide weights, the convolution, the narrow weights, the normalisation. -/
abbrev a0 : FVec Ideal S4x8192x1024 .f32 := m ((c.tc : Thread nD τ).loc main_arg0)
abbrev a1 : FVec Ideal S4x2x2816 .f32 := m ((c.tc : Thread nD τ).loc main_arg1)
abbrev a2 : FVec Ideal S1024x5632 .f32 := m ((c.tc : Thread nD τ).loc main_arg2)
abbrev a3 : FVec Ideal S3x2816 .f32 := m ((c.tc : Thread nD τ).loc main_arg3)
abbrev a4 : FVec Ideal S2816 .f32 := m ((c.tc : Thread nD τ).loc main_arg4)
abbrev a5 : FVec Ideal S2816x1024 .f32 := m ((c.tc : Thread nD τ).loc main_arg5)
abbrev a6 : FVec Ideal S1024 .f32 := m ((c.tc : Thread nD τ).loc main_arg6)
abbrev a7 : FVec Ideal S1024 .f32 := m ((c.tc : Thread nD τ).loc main_arg7)

section
variable (t : Fin cfg0.N) (r : Fin 256) (k d : Fin 1024) (f : Fin 2816)

theorem x_at : iblk m c 0 t (ix3 0 r k) = a0 m c (ix3 (bat t) (tok t r) k) := by
  rw [iblk0_apply, V_main_arg0]
theorem old_at (j : Fin 2) : iblk m c 1 t (ix3 0 j f) = a1 m c (ix3 (bat t) j f) := by
  rw [iblk1_apply, V_main_arg1]
theorem w_at (e : Fin 5632) : iblk m c 2 t (ix2 k e) = a2 m c (ix2 k e) := by
  rw [iblk2_apply, host_up]
  rfl
theorem cw_at (j : Fin 3) : iblk m c 3 t (ix2 j f) = a3 m c (ix2 j f) := by
  rw [iblk3_apply, V_main_arg3]
theorem cb_at : iblk m c 4 t (ix2 0 f) = a4 m c (ix1 f) := by
  rw [iblk4_apply, host_cb]
  pointwise []
theorem wd_at : iblk m c 5 t (ix2 f d) = a5 m c (ix2 f d) := by
  rw [iblk5_apply, host_down]
  rfl
theorem lw_at : iblk m c 6 t (ix2 0 d) = a6 m c (ix1 d) := by
  rw [iblk6_apply, host_lw]
  pointwise []
theorem lb_at : iblk m c 7 t (ix2 0 d) = a7 m c (ix1 d) := by
  rw [iblk7_apply, host_lb]
  pointwise []

/-- The padded projections of the point's batch, by row. -/
def pad (n : ℕ) : EReal := if h : n < 8194 then FfnRef.upad (F := Ideal) (a0 m c) (a1 m c) (a2 m c) (ix3 (bat t) ⟨n, h⟩ f) else 0

theorem up_at : up (F := Ideal) (iblk m c 0 t) (iblk m c 2 t) (ix2 r f) = pad m c t f (256 * (til t).val + r.val + 2) := by
  have hi := (til t).isLt
  have hr := r.isLt
  unfold pad
  rw [dif_pos (by omega), FfnRef.upad_new (t := tok t r) (e := rfl), up_apply]
  simp only [x_at, w_at]

/-- The two rows before the tile. -/
def before : Vec Ideal S2x2816 .f32 :=
  if t.val % 32 = 0 then k0_pay2 (iblk m c 1 t) else (outsAt0 m c (t.val - 1) (Nat.lt_of_le_of_lt (Nat.sub_le _ _) t.isLt)).2.2

theorem carried : (outsAt0 m c t.val t.isLt).2.2 = k0_pay10 (up (F := Ideal) (iblk m c 0 t) (iblk m c 2 t)) := by
  by_cases h : t.val % 32 = 0
  · exact outs_first'' m c t h
  · exact outs_later'' m c t h
theorem flushed : (outsAt0 m c t.val t.isLt).2.1 = k0_pay11 (up (F := Ideal) (iblk m c 0 t) (iblk m c 2 t)) := by
  by_cases h : t.val % 32 = 0
  · exact outs_first' m c t h
  · exact outs_later' m c t h
theorem rows : (outsAt0 m c t.val t.isLt).1 = tile (F := Ideal) (iblk m c 0 t) (iblk m c 2 t) (iblk m c 3 t) (iblk m c 4 t) (iblk m c 5 t) (iblk m c 6 t) (iblk m c 7 t) (before m c t) := by
  unfold before
  by_cases h : t.val % 32 = 0
  · rw [if_pos h]
    exact outs_first m c t h
  · rw [if_neg h]
    exact outs_later m c t h

theorem before_at (j : Fin 2) : before m c t (ix2 j f) = pad m c t f (256 * (til t).val + j.val) := by
  have hj := j.isLt
  obtain ⟨hb, hi⟩ := coords_eq t
  have hl := (til t).isLt
  unfold before
  by_cases h : t.val % 32 = 0
  · rw [if_pos h, first_apply, old_at]
    unfold pad
    rw [dif_pos (by omega), FfnRef.upad_old (r := j) (e := by simp only []; omega)]
  · rw [if_neg h]
    have ht : t.val - 1 < cfg0.N := Nat.lt_of_le_of_lt (Nat.sub_le _ _) t.isLt
    obtain ⟨hb', hi'⟩ := coords_eq ⟨t.val - 1, ht⟩
    have eb : bat ⟨t.val - 1, ht⟩ = bat t := Fin.ext (by rw [hb', hb]; simp only []; omega)
    rw [show (outsAt0 m c (t.val - 1) (Nat.lt_of_le_of_lt (Nat.sub_le _ _) t.isLt)).2.2 = _ from carried m c ⟨t.val - 1, ht⟩, tail_apply, up_at]
    unfold pad
    rw [eb, show 256 * (til ⟨t.val - 1, ht⟩).val + (254 + j.val) + 2 = 256 * (til t).val + j.val by rw [hi', hi]; simp only []; omega]

/-- A row of the tile is the reference's. -/
theorem row_eq : (outsAt0 m c t.val t.isLt).1 (ix3 0 r d)
    = FfnRef.out (F := Ideal) (a0 m c) (a1 m c) (a2 m c) (a3 m c) (a4 m c) (a5 m c) (a6 m c) (a7 m c) (ix3 (bat t) (tok t r) d) := by
  have hl := (til t).isLt
  have hr := r.isLt
  have hh : ∀ f : Fin 2816, act (F := Ideal) (iblk m c 0 t) (iblk m c 2 t) (iblk m c 3 t) (iblk m c 4 t) (before m c t) (ix2 r f)
      = FfnRef.act (F := Ideal) (FfnRef.conv (FfnRef.upad (a0 m c) (a1 m c) (a2 m c)) (a3 m c) (a4 m c)) (FfnRef.gate (a0 m c) (a2 m c)) (ix3 (bat t) (tok t r) f) := fun f => by
    have v : (tok t r).val = 256 * (til t).val + r.val := rfl
    rw [act_apply (P := fun n => pad m c t f (256 * (til t).val + n)) (hu := fun r => up_at m c t r f) (h0 := before_at m c t f 0) (h1 := before_at m c t f 1),
      FfnRef.act_apply, FfnRef.gate_apply,
      FfnRef.conv_apply (n0 := ⟨256 * (til t).val + r.val, by omega⟩) (n1 := ⟨256 * (til t).val + (r.val + 1), by omega⟩) (n2 := ⟨256 * (til t).val + (r.val + 2), by omega⟩)
        (e0 := rfl) (e1 := rfl) (e2 := rfl)]
    simp only [x_at, w_at, cw_at, cb_at, pad]
    rw [dif_pos (by omega), dif_pos (by omega), dif_pos (by omega)]
  rw [rows, tile_apply]
  unfold FfnRef.out
  rw [FfnRef.norm_apply]
  simp only [FfnRef.res_apply, hh, x_at, wd_at, lw_at, lb_at]

/-- The rows kept for the next call are the reference's. -/
theorem last_eq (h : t.val % 32 = 31) (j : Fin 2) : (outsAt0 m c t.val t.isLt).2.1 (ix3 0 j f)
    = FfnRef.last (F := Ideal) (a0 m c) (a1 m c) (a2 m c) (ix3 (bat t) j f) := by
  have hj := j.isLt
  obtain ⟨hb, hi⟩ := coords_eq t
  rw [flushed, tail_apply', up_at, FfnRef.last_apply]
  unfold pad
  rw [dif_pos (by simp only []; omega)]
  exact congrArg (fun q => FfnRef.upad (F := Ideal) (a0 m c) (a1 m c) (a2 m c) (ix3 (bat t) q f)) (Fin.ext (by simp only []; omega))
end

/-- The first result. -/
theorem result : Value.G8 m c = FfnRef.out (F := Ideal) (a0 m c) (a1 m c) (a2 m c) (a3 m c) (a4 m c) (a5 m c) (a6 m c) (a7 m c) := by
  funext i
  have h0 : (i 0).val < 4 := (i 0).isLt
  have h1 : (i 1).val < 8192 := (i 1).isLt
  have h2 : (i 2).val < 1024 := (i 2).isLt
  have hp : Value.pt8Of i = 32 * (i 0).val + (i 1).val / 256 := by simp only [Value.pt8Of, Value.run8Of]; omega
  have hN : Value.pt8Of i < cfg0.N := by rw [show cfg0.N = 128 from N_0]; omega
  unfold Value.G8
  rw [dif_pos hN, ← Value.outsAt0_sweep m c _ hN]
  have el : Value.loc8Of i = ix3 0 ⟨(i 1).val % 256, Nat.mod_lt _ (by decide)⟩ ⟨(i 2).val, h2⟩ := by
    funext a
    apply Fin.ext
    match a with
    | ⟨0, _⟩ => exact Nat.mod_one _
    | ⟨1, _⟩ => rfl
    | ⟨2, _⟩ => exact Nat.mod_eq_of_lt h2
  obtain ⟨hb, hi⟩ := coords_eq ⟨Value.pt8Of i, hN⟩
  rw [el]
  refine (row_eq m c ⟨Value.pt8Of i, hN⟩ _ _).trans (congrArg _ ?_)
  funext a
  apply Fin.ext
  match a with
  | ⟨0, _⟩ => exact hb.trans (by simp only []; show _ = (i 0).val; omega)
  | ⟨1, _⟩ => exact (congrArg (fun n => 256 * n + (i 1).val % 256) hi).trans (by simp only []; show _ = (i 1).val; omega)
  | ⟨2, _⟩ => rfl

/-- The second result. -/
theorem result' : Value.G9 m c = FfnRef.last (F := Ideal) (a0 m c) (a1 m c) (a2 m c) := by
  funext i
  have h0 : (i 0).val < 4 := (i 0).isLt
  have h1 : (i 1).val < 2 := (i 1).isLt
  have h2 : (i 2).val < 2816 := (i 2).isLt
  have hp : Value.pt9Of i = 32 * (i 0).val + 31 := by simp only [Value.pt9Of, Value.run9Of]; omega
  have hN : Value.pt9Of i < cfg0.N := by rw [show cfg0.N = 128 from N_0]; omega
  unfold Value.G9
  rw [dif_pos hN, ← Value.outsAt0_sweep m c _ hN]
  have el : Value.loc9Of i = ix3 0 ⟨(i 1).val, h1⟩ ⟨(i 2).val, h2⟩ := by
    funext a
    apply Fin.ext
    match a with
    | ⟨0, _⟩ => exact Nat.mod_one _
    | ⟨1, _⟩ => exact Nat.mod_eq_of_lt h1
    | ⟨2, _⟩ => exact Nat.mod_eq_of_lt h2
  obtain ⟨hb, hi⟩ := coords_eq ⟨Value.pt9Of i, hN⟩
  rw [el]
  refine (last_eq m c ⟨Value.pt9Of i, hN⟩ _ (by simp only []; omega) _).trans (congrArg _ ?_)
  funext a
  apply Fin.ext
  match a with
  | ⟨0, _⟩ => exact hb.trans (by simp only []; show _ = (i 0).val; omega)
  | ⟨1, _⟩ => rfl
  | ⟨2, _⟩ => rfl
end

end Cert.Proof.Ffn

end
-- ==== Proof.lean ====
/-
  The claims for the attention and for the feed-forward part: the frames of the programs (each run ends, with the arguments
  unchanged and every semaphore counter at zero), the one rewrite that separates the attention kernel from its idealisation, the
  mask's constant, and that each idealised kernel and its reference leave the same results, the attention for finite queries, keys
  and gates, the feed-forward part for any arguments.
-/
module

public import proofs.«01_k».proof.Defs
public import proofs.«01_k».proof.Proof.KernelFrame
public import proofs.«01_k».proof.Proof.KernelRun
public import proofs.«01_k».proof.Proof.Attn
public import proofs.«01_k».proof.Proof.Finite
public import proofs.«01_k».proof.Proof.Gen.Kernel2.Frame
public import proofs.«01_k».proof.Proof.Gen.Kernel2Ideal.Frame
public import proofs.«01_k».proof.Proof.FfnRes
public import proofs.«01_k».proof.Proof.Ref

@[expose] public section

noncomputable section

namespace Cert.Proof

open Idealize.ShloMosaic Idealize.SL.Sem

/-- The idealised kernel's run. -/
theorem kernelIdeal : Cert.quiescent_KernelIdeal (hKernelIdeal := Cert.KernelIdeal.Gen.facts) :=
  fun m ρ _ => (θ_run _ _ _).mono (fun _ h => ⟨fun c => (h.1 c).2, h.2⟩) (Fox.run m ρ)

/-- The reference's run. -/
theorem referenceIdeal : Cert.quiescent_ReferenceIdeal (hReferenceIdeal := Cert.ReferenceIdeal.Gen.facts) :=
  fun m ρ _ => (θ_run _ _ _).mono (fun _ h => ⟨fun c => (h.1 c).2, h.2⟩) (Ref.run m ρ)

/-- The two leave the same result. -/
theorem algebraic : Cert.algebraic_KernelIdeal_ReferenceIdeal_pre_finite (hKernelIdeal := Cert.KernelIdeal.Gen.facts)
    (hReferenceIdeal := Cert.ReferenceIdeal.Gen.facts) (hPre_finite := Finite.facts) := fun m ρ m' ρ' hpre hargs => by
  refine ⟨fun c => (Fox.dats m 0 c).arrAt 3 _, (θ_run _ _ _).mono (fun _ h c => h.1 c) (Fox.run m ρ), (θ_run _ _ _).mono (fun r h c => ?_) (Ref.run m' ρ')⟩
  obtain ⟨ho, hrest⟩ := h.1 c
  refine ⟨ho.trans ?_, hrest⟩
  obtain ⟨p0, p1, p3⟩ := hpre c
  obtain ⟨a0, a1, a2, a3⟩ := hargs c
  rw [a0, a1, a2, a3]
  exact (Fox.result _ _ _ _ (Finite.reals _ _ p0) (Finite.reals _ _ p1) (Fox.cum_real _ (Finite.reals _ _ p3)) m c rfl rfl rfl rfl).symm

/-- The feed-forward reference's run. -/
theorem reference2Ideal : Cert.quiescent_Reference2Ideal (hReference2Ideal := Cert.Reference2Ideal.Gen.facts) :=
  fun m ρ _ => (θ_run _ _ _).mono (fun _ h => ⟨fun c => (h.1 c).2.2, h.2⟩) (FfnRef.run_out m ρ)

/-- The feed-forward kernel and its reference leave the same two results. -/
theorem algebraic2 : Cert.algebraic_Kernel2Ideal_Reference2Ideal (hKernel2Ideal := Cert.Kernel2Ideal.Gen.facts)
    (hReference2Ideal := Cert.Reference2Ideal.Gen.facts) := fun m ρ m' ρ' _ hargs => by
  refine ⟨fun c => Cert.Kernel2Ideal.Value.G8 m c, fun c => Cert.Kernel2Ideal.Value.G9 m c, Cert.Kernel2Ideal.Value.run m ρ,
    (θ_run _ _ _).mono (fun r h c => ?_) (FfnRef.run_out m' ρ')⟩
  obtain ⟨ho, hl, hrest⟩ := h.1 c
  refine ⟨ho.trans ?_, hl.trans ?_, hrest⟩
  all_goals obtain ⟨e0, e1, e2, e3, e4, e5, e6, e7⟩ := hargs c
  · rw [e0, e1, e2, e3, e4, e5, e6, e7]
    exact (Ffn.result m c).symm
  · rw [e0, e1, e2]
    exact (Ffn.result' m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Finite.facts,
  fun m ρ _ => KernelFrame.frame m ρ, kernelIdeal, fun m ρ _ => kernelIdeal m ρ trivial, referenceIdeal, fun m ρ _ => referenceIdeal m ρ trivial,
  fun m ρ _ => Cert.Kernel2.Gen.frame m ρ, fun m ρ _ => Cert.Kernel2Ideal.Gen.frame m ρ, reference2Ideal,
  IdealRules.named_const.statement Cert.KernelIdeal.κ "mask" .f32 0xF149F2CA#32 ⊥ rfl, algebraic, trivial, algebraic2⟩

end Cert.Proof

end
